-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_k" .f32 0x3D4CCCCD#32 ((20⁻¹ : ℝ) : EReal)

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4096x200 : Shape := ⟨2, ![4096, 200]⟩
abbrev S1000x128 : Shape := ⟨2, ![1000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S64x1 : Shape := ⟨2, ![64, 1]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000x128 .f32) (main_arg2 : FVec F S128x64 .f32) (main_arg3 : FVec F S64 .f32) (main_arg4 : FVec F S64x32 .f32) (main_arg5 : FVec F S32 .f32) (main_arg6 : FVec F S32x1 .f32) (main_arg7 : FVec F S1 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S64x1 .f32) (main_arg15 : FVec F S1 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000x128 : Shape := ⟨2, ![1000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S64x1 : Shape := ⟨2, ![64, 1]⟩
abbrev S1000x64 : Shape := ⟨2, ![1000, 64]⟩
abbrev S1x64 : Shape := ⟨2, ![1, 64]⟩
abbrev S_ : Shape := ⟨0, ![]⟩
abbrev S1000x32 : Shape := ⟨2, ![1000, 32]⟩
abbrev S1x32 : Shape := ⟨2, ![1, 32]⟩
abbrev S1000x1 : Shape := ⟨2, ![1000, 1]⟩
abbrev S1x1 : Shape := ⟨2, ![1, 1]⟩
abbrev S1000 : Shape := ⟨1, ![1000]⟩
abbrev S1024 : Shape := ⟨1, ![1024]⟩
abbrev S1x1000 : Shape := ⟨2, ![1, 1000]⟩
abbrev S1000x1000 : Shape := ⟨2, ![1000, 1000]⟩
abbrev S819200 : Shape := ⟨1, ![819200]⟩
abbrev S25600 : Shape := ⟨1, ![25600]⟩
abbrev S16 : Shape := ⟨1, ![16]⟩
abbrev S1024x128 : Shape := ⟨2, ![1024, 128]⟩
abbrev S1x128 : Shape := ⟨2, ![1, 128]⟩
abbrev S4096x20 : Shape := ⟨2, ![4096, 20]⟩
abbrev S4096x1 : Shape := ⟨2, ![4096, 1]⟩
abbrev S1024x200 : Shape := ⟨2, ![1024, 200]⟩
abbrev S1024x20 : Shape := ⟨2, ![1024, 20]⟩
abbrev S1024x1 : Shape := ⟨2, ![1024, 1]⟩
abbrev S1024x1024 : Shape := ⟨2, ![1024, 1024]⟩
abbrev S1024x64 : Shape := ⟨2, ![1024, 64]⟩
abbrev S4096 : Shape := ⟨1, ![4096]⟩

abbrev nBuf : Table → Nat
  | .hbm => 78
  | .local .tc .vmem => 16
  | .local .scVector .vmem => 5
  | _ => 0

abbrev bufTy : (tb : Table) → Fin (nBuf tb) → BufTy
  | .hbm, ⟨0, _⟩ => ⟨S4096x200, .i32⟩
  | .hbm, ⟨1, _⟩ => ⟨S1000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1000x64, .f32⟩
  | .hbm, ⟨17, _⟩ => ⟨S1x64, .f32⟩
  | .hbm, ⟨18, _⟩ => ⟨S1000x64, .f32⟩
  | .hbm, ⟨19, _⟩ => ⟨S1000x64, .f32⟩
  | .hbm, ⟨20, _⟩ => ⟨S_, .f32⟩
  | .hbm, ⟨21, _⟩ => ⟨S1000x64, .f32⟩
  | .hbm, ⟨22, _⟩ => ⟨S1000x64, .f32⟩
  | .hbm, ⟨23, _⟩ => ⟨S1000x32, .f32⟩
  | .hbm, ⟨24, _⟩ => ⟨S1x32, .f32⟩
  | .hbm, ⟨25, _⟩ => ⟨S1000x32, .f32⟩
  | .hbm, ⟨26, _⟩ => ⟨S1000x32, .f32⟩
  | .hbm, ⟨27, _⟩ => ⟨S_, .f32⟩
  | .hbm, ⟨28, _⟩ => ⟨S1000x32, .f32⟩
  | .hbm, ⟨29, _⟩ => ⟨S1000x32, .f32⟩
  | .hbm, ⟨30, _⟩ => ⟨S1000x1, .f32⟩
  | .hbm, ⟨31, _⟩ => ⟨S1x1, .f32⟩
  | .hbm, ⟨32, _⟩ => ⟨S1000x1, .f32⟩
  | .hbm, ⟨33, _⟩ => ⟨S1000x1, .f32⟩
  | .hbm, ⟨34, _⟩ => ⟨S1000, .f32⟩
  | .hbm, ⟨35, _⟩ => ⟨S1000, .f32⟩
  | .hbm, ⟨36, _⟩ => ⟨S1000, .f32⟩
  | .hbm, ⟨37, _⟩ => ⟨S_, .f32⟩
  | .hbm, ⟨38, _⟩ => ⟨S1000, .f32⟩
  | .hbm, ⟨39, _⟩ => ⟨S1000, .f32⟩
  | .hbm, ⟨40, _⟩ => ⟨S_, .f32⟩
  | .hbm, ⟨41, _⟩ => ⟨S1000, .f32⟩
  | .hbm, ⟨42, _⟩ => ⟨S1000, .f32⟩
  | .hbm, ⟨43, _⟩ => ⟨S_, .i32⟩
  | .hbm, ⟨44, _⟩ => ⟨S_, .f32⟩
  | .hbm, ⟨45, _⟩ => ⟨S1024, .f32⟩
  | .hbm, ⟨46, _⟩ => ⟨S1x1000, .f32⟩
  | .hbm, ⟨47, _⟩ => ⟨S1000x1, .f32⟩
  | .hbm, ⟨48, _⟩ => ⟨S1000x1000, .f32⟩
  | .hbm, ⟨49, _⟩ => ⟨S1000x1000, .f32⟩
  | .hbm, ⟨50, _⟩ => ⟨S1000x1000, .i1⟩
  | .hbm, ⟨51, _⟩ => ⟨S1000x1000, .i32⟩
  | .hbm, ⟨52, _⟩ => ⟨S_, .i32⟩
  | .hbm, ⟨53, _⟩ => ⟨S1000, .i32⟩
  | .hbm, ⟨54, _⟩ => ⟨S_, .i32⟩
  | .hbm, ⟨55, _⟩ => ⟨S1000, .i32⟩
  | .hbm, ⟨56, _⟩ => ⟨S1000, .i32⟩
  | .hbm, ⟨57, _⟩ => ⟨S1000, .i32⟩
  | .hbm, ⟨58, _⟩ => ⟨S1000, .i32⟩
  | .hbm, ⟨59, _⟩ => ⟨S_, .i32⟩
  | .hbm, ⟨60, _⟩ => ⟨S_, .i32⟩
  | .hbm, ⟨61, _⟩ => ⟨S1024, .i32⟩
  | .hbm, ⟨62, _⟩ => ⟨S819200, .i32⟩
  | .hbm, ⟨63, _⟩ => ⟨S819200, .f32⟩
  | .hbm, ⟨64, _⟩ => ⟨S819200, .i32⟩
  | .hbm, ⟨65, _⟩ => ⟨S4096x200, .f32⟩
  | .hbm, ⟨66, _⟩ => ⟨S_, .i32⟩
  | .hbm, ⟨67, _⟩ => ⟨S_, .f32⟩
  | .hbm, ⟨68, _⟩ => ⟨S1024x128, .f32⟩
  | .hbm, ⟨69, _⟩ => ⟨S4096x200, .i32⟩
  | .hbm, ⟨70, _⟩ => ⟨S1x128, .f32⟩
  | .hbm, ⟨71, _⟩ => ⟨S1x128, .f32⟩
  | .hbm, ⟨72, _⟩ => ⟨S1x64, .f32⟩
  | .hbm, ⟨73, _⟩ => ⟨S1x64, .f32⟩
  | .hbm, ⟨74, _⟩ => ⟨S1x1, .f32⟩
  | .hbm, ⟨75, _⟩ => ⟨S4096x20, .i32⟩
  | .hbm, ⟨76, _⟩ => ⟨S4096x1, .f32⟩
  | .hbm, ⟨77, _⟩ => ⟨S4096, .f32⟩
  | .local .tc .vmem, ⟨0, _⟩ => ⟨S1024x200, .i32⟩
  | .local .tc .vmem, ⟨1, _⟩ => ⟨S1024x200, .i32⟩
  | .local .tc .vmem, ⟨2, _⟩ => ⟨S1024x128, .f32⟩
  | .local .tc .vmem, ⟨3, _⟩ => ⟨S128x128, .f32⟩
  | .local .tc .vmem, ⟨4, _⟩ => ⟨S1x128, .f32⟩
  | .local .tc .vmem, ⟨5, _⟩ => ⟨S128x128, .f32⟩
  | .local .tc .vmem, ⟨6, _⟩ => ⟨S1x128, .f32⟩
  | .local .tc .vmem, ⟨7, _⟩ => ⟨S128x64, .f32⟩
  | .local .tc .vmem, ⟨8, _⟩ => ⟨S1x64, .f32⟩
  | .local .tc .vmem, ⟨9, _⟩ => ⟨S1x64, .f32⟩
  | .local .tc .vmem, ⟨10, _⟩ => ⟨S1x1, .f32⟩
  | .local .tc .vmem, ⟨11, _⟩ => ⟨S1024x20, .i32⟩
  | .local .tc .vmem, ⟨12, _⟩ => ⟨S1024x20, .i32⟩
  | .local .tc .vmem, ⟨13, _⟩ => ⟨S1024x1, .f32⟩
  | .local .tc .vmem, ⟨14, _⟩ => ⟨S1024x1, .f32⟩
  | .local .tc .vmem, ⟨15, _⟩ => ⟨S1024x128, .f32⟩
  | .local .scVector .vmem, ⟨0, _⟩ => ⟨S1024, .f32⟩
  | .local .scVector .vmem, ⟨1, _⟩ => ⟨S1024, .i32⟩
  | .local .scVector .vmem, ⟨2, _⟩ => ⟨S25600, .i32⟩
  | .local .scVector .vmem, ⟨3, _⟩ => ⟨S25600, .f32⟩
  | .local .scVector .vmem, ⟨4, _⟩ => ⟨S25600, .i32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_c_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_call3_v0 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v36 : Ref sig .tc := ⟨.hbm, 65, rfl⟩
abbrev main_c_4 : Ref sig .tc := ⟨.hbm, 66, rfl⟩
abbrev main_call4_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44_0 : Ref sig .tc := ⟨.hbm, 75, rfl⟩
abbrev main_v44_1 : Ref sig .tc := ⟨.hbm, 76, rfl⟩
abbrev main_v45 : Ref sig .tc := ⟨.hbm, 77, rfl⟩
abbrev main_v21_scv : Ref sig .scVector := ⟨.hbm, 45, rfl⟩
abbrev main_v33_scv : Ref sig .scVector := ⟨.hbm, 61, rfl⟩
abbrev main_v34_scv : Ref sig .scVector := ⟨.hbm, 62, rfl⟩
abbrev main_v35_0_scv : Ref sig .scVector := ⟨.hbm, 63, rfl⟩
abbrev main_v35_1_scv : Ref sig .scVector := ⟨.hbm, 64, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg10_1 : Ref sig .tc := ⟨.vmem, 12, rfl⟩
abbrev cc1_stg11_0 : Ref sig .tc := ⟨.vmem, 13, rfl⟩
abbrev cc1_stg11_1 : Ref sig .tc := ⟨.vmem, 14, rfl⟩
abbrev cc1_scratch0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem10_1 : DmaSem sig := 17
abbrev cc1_sem11_0 : DmaSem sig := 18
abbrev cc1_sem11_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32 : BitVec 32 := 0#32
  let c1600_i32 : BitVec 32 := 1600#32
  let v3 : BitVec 32 := Scalar.addi c0_i32 c1600_i32
  let c1_i32 : BitVec 32 := 1#32
  ⟨c0_i32, v3, c1_i32⟩
def k0_off2 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v4 : BitVec 32 := Scalar.muli arg12 c1_i32_1
  let v5 : BitVec 32 := Scalar.addi c0_i32_2 v4
  let c16_i32 : BitVec 32 := 16#32
  let v6 : BitVec 32 := Scalar.muli v5 c16_i32
  let v7 : Index := Scalar.indexCast v6
  ![v7.toNat]
def k0_off3 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v4 : BitVec 32 := Scalar.muli arg12 c1_i32_1
  let v5 : BitVec 32 := Scalar.addi c0_i32_2 v4
  let c16_i32 : BitVec 32 := 16#32
  let v6 : BitVec 32 := Scalar.muli v5 c16_i32
  let v10 : Index := Scalar.indexCast v6
  ![v10.toNat]

def k0_chk1 (v8 : IVec S16 32) : Prop :=
  (∀ a x, ((![v8] : Fin 1 → IVec S16 32) a x).toNat < S1024.size a) ∧
  (∀ a x, ((![v8] : Fin 1 → IVec S16 32) a x).toNat < S1024.size a)
theorem k0_idx1_inb : ∀ (v8 : IVec S16 32) (k0_hw1 : k0_chk1 v8), ∀ a x, ((![v8] : Fin 1 → IVec S16 32) a x).toNat < S1024.size a := fun v8 k0_hw1 => k0_hw1.1
theorem k0_idx2_inb : ∀ (v8 : IVec S16 32) (k0_hw1 : k0_chk1 v8), ∀ a x, ((![v8] : Fin 1 → IVec S16 32) a x).toNat < S1024.size a := fun v8 k0_hw1 => k0_hw1.2
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x20 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_k" => some ((20⁻¹ : ℝ) : EReal)
  | _ => none
-- ==== ReferenceIdeal.lean ====
abbrev S4096x200 : Shape := ⟨2, ![4096, 200]⟩
abbrev S1000x128 : Shape := ⟨2, ![1000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S64x1 : Shape := ⟨2, ![64, 1]⟩
abbrev S_ : Shape := ⟨0, ![]⟩
abbrev S4096x200x1 : Shape := ⟨3, ![4096, 200, 1]⟩
abbrev S1x1x1 : Shape := ⟨3, ![1, 1, 1]⟩
abbrev S4096x200x128 : Shape := ⟨3, ![4096, 200, 128]⟩
abbrev S819200x128 : Shape := ⟨2, ![819200, 128]⟩
abbrev S819200x64 : Shape := ⟨2, ![819200, 64]⟩
abbrev S1x64 : Shape := ⟨2, ![1, 64]⟩
abbrev S819200x32 : Shape := ⟨2, ![819200, 32]⟩
abbrev S1x32 : Shape := ⟨2, ![1, 32]⟩
abbrev S819200x1 : Shape := ⟨2, ![819200, 1]⟩
abbrev S1x1 : Shape := ⟨2, ![1, 1]⟩
abbrev S4096x20 : Shape := ⟨2, ![4096, 20]⟩
abbrev S4096x20x1 : Shape := ⟨3, ![4096, 20, 1]⟩
abbrev S4096x20x128 : Shape := ⟨3, ![4096, 20, 128]⟩
abbrev S81920x128 : Shape := ⟨2, ![81920, 128]⟩
abbrev S1x128 : Shape := ⟨2, ![1, 128]⟩
abbrev S4096x128 : Shape := ⟨2, ![4096, 128]⟩
abbrev S4096x64 : Shape := ⟨2, ![4096, 64]⟩
abbrev S4096x1 : Shape := ⟨2, ![4096, 1]⟩
abbrev S4096 : Shape := ⟨1, ![4096]⟩

abbrev nBuf : Space → Nat
  | .hbm => 130
  | .vmem => 0
  | .smem => 0
  | _ => 0

abbrev hbmTy0_0 (i : Nat) : BufTy := match i % 128 with
  | 0 => ⟨S4096x200, .i32⟩
  | 1 => ⟨S1000x128, .f32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S64x1, .f32⟩
  | 15 => ⟨S1, .f32⟩
  | 16 => ⟨S_, .i32⟩
  | 17 => ⟨S4096x200, .i32⟩
  | 18 => ⟨S4096x200, .i1⟩
  | 19 => ⟨S_, .i32⟩
  | 20 => ⟨S4096x200, .i32⟩
  | 21 => ⟨S4096x200, .i32⟩
  | 22 => ⟨S4096x200, .i32⟩
  | 23 => ⟨S4096x200x1, .i32⟩
  | 24 => ⟨S1, .i32⟩
  | 25 => ⟨S_, .i32⟩
  | 26 => ⟨S4096x200x1, .i32⟩
  | 27 => ⟨S4096x200x1, .i1⟩
  | 28 => ⟨S1x1x1, .i32⟩
  | 29 => ⟨S4096x200x1, .i32⟩
  | 30 => ⟨S4096x200x1, .i1⟩
  | 31 => ⟨S4096x200x1, .i1⟩
  | 32 => ⟨S_, .i1⟩
  | 33 => ⟨S4096x200, .i1⟩
  | 34 => ⟨S4096x200x128, .f32⟩
  | 35 => ⟨S4096x200x128, .i1⟩
  | 36 => ⟨S_, .f32⟩
  | 37 => ⟨S4096x200x128, .f32⟩
  | 38 => ⟨S4096x200x128, .f32⟩
  | 39 => ⟨S819200x128, .f32⟩
  | 40 => ⟨S819200x64, .f32⟩
  | 41 => ⟨S1x64, .f32⟩
  | 42 => ⟨S819200x64, .f32⟩
  | 43 => ⟨S819200x64, .f32⟩
  | 44 => ⟨S_, .f32⟩
  | 45 => ⟨S819200x64, .f32⟩
  | 46 => ⟨S819200x64, .f32⟩
  | 47 => ⟨S819200x32, .f32⟩
  | 48 => ⟨S1x32, .f32⟩
  | 49 => ⟨S819200x32, .f32⟩
  | 50 => ⟨S819200x32, .f32⟩
  | 51 => ⟨S_, .f32⟩
  | 52 => ⟨S819200x32, .f32⟩
  | 53 => ⟨S819200x32, .f32⟩
  | 54 => ⟨S819200x1, .f32⟩
  | 55 => ⟨S1x1, .f32⟩
  | 56 => ⟨S819200x1, .f32⟩
  | 57 => ⟨S819200x1, .f32⟩
  | 58 => ⟨S4096x200, .f32⟩
  | 59 => ⟨S4096x200, .f32⟩
  | 60 => ⟨S4096x200, .f32⟩
  | 61 => ⟨S_, .f32⟩
  | 62 => ⟨S4096x200, .f32⟩
  | 63 => ⟨S4096x200, .f32⟩
  | 64 => ⟨S_, .f32⟩
  | 65 => ⟨S4096x200, .f32⟩
  | 66 => ⟨S4096x200, .f32⟩
  | 67 => ⟨S4096x20, .f32⟩
  | 68 => ⟨S4096x20, .i32⟩
  | 69 => ⟨S4096x20x1, .i32⟩
  | 70 => ⟨S_, .i32⟩
  | 71 => ⟨S4096x20x1, .i32⟩
  | 72 => ⟨S4096x20x1, .i1⟩
  | 73 => ⟨S_, .i32⟩
  | 74 => ⟨S4096x20x1, .i32⟩
  | 75 => ⟨S4096x20x1, .i32⟩
  | 76 => ⟨S4096x20x1, .i32⟩
  | 77 => ⟨S1, .i32⟩
  | 78 => ⟨S_, .i32⟩
  | 79 => ⟨S4096x20x1, .i32⟩
  | 80 => ⟨S4096x20x1, .i1⟩
  | 81 => ⟨S1x1x1, .i32⟩
  | 82 => ⟨S4096x20x1, .i32⟩
  | 83 => ⟨S4096x20x1, .i1⟩
  | 84 => ⟨S4096x20x1, .i1⟩
  | 85 => ⟨S_, .i1⟩
  | 86 => ⟨S4096x20, .i1⟩
  | 87 => ⟨S4096x20x128, .f32⟩
  | 88 => ⟨S4096x20x128, .i1⟩
  | 89 => ⟨S_, .f32⟩
  | 90 => ⟨S4096x20x128, .f32⟩
  | 91 => ⟨S4096x20x128, .f32⟩
  | 92 => ⟨S81920x128, .f32⟩
  | 93 => ⟨S81920x128, .f32⟩
  | 94 => ⟨S1x128, .f32⟩
  | 95 => ⟨S81920x128, .f32⟩
  | 96 => ⟨S81920x128, .f32⟩
  | 97 => ⟨S_, .f32⟩
  | 98 => ⟨S81920x128, .f32⟩
  | 99 => ⟨S81920x128, .f32⟩
  | 100 => ⟨S81920x128, .f32⟩
  | 101 => ⟨S1x128, .f32⟩
  | 102 => ⟨S81920x128, .f32⟩
  | 103 => ⟨S81920x128, .f32⟩
  | 104 => ⟨S4096x20x128, .f32⟩
  | 105 => ⟨S_, .f32⟩
  | 106 => ⟨S4096x128, .f32⟩
  | 107 => ⟨S_, .f32⟩
  | 108 => ⟨S4096x128, .f32⟩
  | 109 => ⟨S4096x128, .f32⟩
  | 110 => ⟨S4096x64, .f32⟩
  | 111 => ⟨S1x64, .f32⟩
  | 112 => ⟨S4096x64, .f32⟩
  | 113 => ⟨S4096x64, .f32⟩
  | 114 => ⟨S_, .f32⟩
  | 115 => ⟨S4096x64, .f32⟩
  | 116 => ⟨S4096x64, .f32⟩
  | 117 => ⟨S4096x1, .f32⟩
  | 118 => ⟨S1x1, .f32⟩
  | 119 => ⟨S4096x1, .f32⟩
  | 120 => ⟨S4096x1, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096x1, .f32⟩
  | _ => ⟨S4096x200, .i32⟩

abbrev hbmTy0_1 (i : Nat) : BufTy := match i % 128 with
  | 0 => ⟨S4096x1, .f32⟩
  | 1 => ⟨S4096, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call1_cst : Ref sig .tc := ⟨.hbm, 44, rfl⟩
abbrev main_call1_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call2_cst : Ref sig .tc := ⟨.hbm, 51, rfl⟩
abbrev main_call2_v0 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst : Ref sig .tc := ⟨.hbm, 61, rfl⟩
abbrev main_v19 : Ref sig .tc := ⟨.hbm, 62, rfl⟩
abbrev main_v20 : Ref sig .tc := ⟨.hbm, 63, rfl⟩
abbrev main_cst_0 : Ref sig .tc := ⟨.hbm, 64, rfl⟩
abbrev main_v21 : Ref sig .tc := ⟨.hbm, 65, rfl⟩
abbrev main_v22 : Ref sig .tc := ⟨.hbm, 66, rfl⟩
abbrev main_values : Ref sig .tc := ⟨.hbm, 67, rfl⟩
abbrev main_indices : Ref sig .tc := ⟨.hbm, 68, rfl⟩
abbrev main_v23 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_c_2 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_c_3 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_call4_cst : Ref sig .tc := ⟨.hbm, 97, rfl⟩
abbrev main_call4_v0 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_1 : Ref sig .tc := ⟨.hbm, 105, rfl⟩
abbrev main_v36 : Ref sig .tc := ⟨.hbm, 106, rfl⟩
abbrev main_cst_2 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_call5_cst : Ref sig .tc := ⟨.hbm, 114, rfl⟩
abbrev main_call5_v0 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_cst_3 : Ref sig .tc := ⟨.hbm, 123, rfl⟩
abbrev main_v50 : Ref sig .tc := ⟨.hbm, 124, rfl⟩
abbrev main_v51 : Ref sig .tc := ⟨.hbm, 125, rfl⟩
abbrev main_cst_4 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩

abbrev nD : Nat := 1
abbrev τ : Topo := Topo.v7x

variable {F : FTy → Type} [FloatOps F]
-- ==== Proof.Launch.lean ====
/-
  The program as its launch sees it: the label set, the SparseCore launch's configuration, the ghost state the proof
  works over (the handshakes' rounds, the TensorCore pipeline's rounds, and the counters of the tiles' own transfers),
  and the arrays the SparseCore call reads and writes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its semaphores are distinct and none is a scratch of a kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The ownership algebra of the whole run. -/
abbrev MM (F : FTy → Type) := MT nD τ sig (HIx 1) (Elt F) ℕ UU ℕ

local notation "𝕄" => MM F

/-- The handshakes' rounds, the first factor. -/
abbrev EH : Emb UH (MT nD τ sig (HIx 1) (Elt F) ℕ UU ℕ) := embL

/-- The pipeline's rounds, the second factor. -/
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-! ## The arrays of the SparseCore call -/

variable (m : (ℓ : Loc nD τ sig) → Buf (Elt F) ℓ)

/-- The padded score table, the padded packed-rank table, the flattened ids, and the two results: as locations of device `d`. -/
abbrev svLoc (d : Dev nD) : Loc nD τ sig := (SparseCore.T d).loc main_v21
abbrev ridLoc (d : Dev nD) : Loc nD τ sig := (SparseCore.T d).loc main_v33
abbrev xLoc (d : Dev nD) : Loc nD τ sig := (SparseCore.T d).loc main_v34
abbrev o1Loc (d : Dev nD) : Loc nD τ sig := (SparseCore.T d).loc main_v35_0
abbrev o2Loc (d : Dev nD) : Loc nD τ sig := (SparseCore.T d).loc main_v35_1

/-- The tables' entry an id names: an index of the 1024-entry tables (ids are below 1024 by the precondition; the
    remainder makes the definition total). -/
def entry (v : BitVec 32) : S1024.Idx := fun | 0 => ⟨v.toNat % 1024, Nat.mod_lt _ (by decide)⟩

/-- The gathered scores: at every position the score table's entry for the id there. -/
def gath1 (d : Dev nD) : Buf (Elt F) (o1Loc d) := fun j => (m (svLoc d) : S1024.Idx → F .f32) (entry ((m (xLoc d) : S819200.Idx → BitVec 32) j))
/-- The gathered packed ranks. -/
def gath2 (d : Dev nD) : Buf (Elt F) (o2Loc d) := fun j => (m (ridLoc d) : S1024.Idx → BitVec 32) (entry ((m (xLoc d) : S819200.Idx → BitVec 32) j))

/-- What the tiles ask of the ids: each is below 1024. -/
def IdsOK : Prop := ∀ (d : Dev nD) (j : S819200.Idx), ((m (xLoc d) : S819200.Idx → BitVec 32) j).toNat < 1024

/-- The 25600 consecutive positions tile `(c, i)` works on. -/
def chunk (c : Fin 2) (i : Fin 16) : Finset S819200.Idx :=
  Finset.univ.filter fun j => 51200 * i.val + 25600 * c.val ≤ (j 0).val ∧ (j 0).val < 51200 * i.val + 25600 * c.val + 25600

/-- Tile `(c, i)`'s share of the two tables. -/
def tq (c : Fin 2) (i : Fin 16) : PosShare TreeShare := Transfers.shareTokN fullShare (16 * c.val + i.val)

/-- What tile `(c, i)` is handed: its share of the tables, its chunk of the ids and of the two results. -/
def tileIn (d : Dev nD) (c : Fin 2) (i : Fin 16) : sProp 𝕄 :=
  iprop((svLoc d ↦{tq c i} m (svLoc d)) ∗ (ridLoc d ↦{tq c i} m (ridLoc d)) ∗ (xLoc d ↦[chunk c i]{fullShare} m (xLoc d))
    ∗ (o1Loc d ↦[chunk c i]{fullShare} m (o1Loc d)) ∗ (o2Loc d ↦[chunk c i]{fullShare} m (o2Loc d)))
/-- What it hands back: the same, its chunk of the results gathered. -/
def tileOut (d : Dev nD) (c : Fin 2) (i : Fin 16) : sProp 𝕄 :=
  iprop((svLoc d ↦{tq c i} m (svLoc d)) ∗ (ridLoc d ↦{tq c i} m (ridLoc d)) ∗ (xLoc d ↦[chunk c i]{fullShare} m (xLoc d))
    ∗ (o1Loc d ↦[chunk c i]{fullShare} gath1 m d) ∗ (o2Loc d ↦[chunk c i]{fullShare} gath2 m d))

instance tileIn_storable (d : Dev nD) (c : Fin 2) (i : Fin 16) : BI.Storable (upEmb : UEmb _ 𝕄) (tileIn m d c i) := by
  unfold tileIn; infer_instance
instance tileOut_storable (d : Dev nD) (c : Fin 2) (i : Fin 16) : BI.Storable (upEmb : UEmb _ 𝕄) (tileOut m d c i) := by
  unfold tileOut; infer_instance

/-- The one call's payloads: a SparseCore is handed its sixteen tiles' parts and hands back theirs. -/
def P : (K (F := F)).Pay (nD := nD) (Val := Elt F) (Name := ℕ) (U := UU) where
  st := fun q d c => match q with | 0 => bigSep Finset.univ fun i : Fin 16 => tileIn m d c i
  dn := fun q d c => match q with | 0 => bigSep Finset.univ fun i : Fin 16 => tileOut m d c i
  go := fun q d c i => match q with | 0 => tileIn m d c i
  td := fun q d c i => match q with | 0 => tileOut m d c i
  x := fun _ _ => iprop(emp)

instance P_storable : (P (F := F) m).IsStorable where
  st q d c := match q with
    | 0 => (inferInstance : BI.Storable (upEmb : UEmb _ 𝕄) (bigSep Finset.univ fun i : Fin 16 => tileIn m d c i))
  dn q d c := match q with
    | 0 => (inferInstance : BI.Storable (upEmb : UEmb _ 𝕄) (bigSep Finset.univ fun i : Fin 16 => tileOut m d c i))
  go q d c i := match q with | 0 => (inferInstance : BI.Storable (upEmb : UEmb _ 𝕄) (tileIn m d c i))
  td q d c i := match q with | 0 => (inferInstance : BI.Storable (upEmb : UEmb _ 𝕄) (tileOut m d c i))

/-- A SparseCore's operands are its tiles' and its results theirs. -/
theorem vecSplit : (K (F := F)).VecSplit' (P m) 0 := by
  intro d c
  show (bigSep Finset.univ fun i : Fin 16 => tileIn m d c i) ⊢ |={Set.univ}=> iprop(
      (bigSep Finset.univ fun i : Fin 16 => tileIn m d c i)
      ∗ ((bigSep Finset.univ fun i : Fin 16 => tileOut m d c i) -∗ (bigSep Finset.univ fun i : Fin 16 => tileOut m d c i)))
  iintro H; imodintro
  isplitl [H]; · iexact H
  iintro H; iexact H

end Cert.Proof.Run

end
-- ==== Proof.Tile.lean ====
/-
  One tile's task of the SparseCore gather: the two tables and the tile's chunk of the ids are copied into its own
  buffers, a counted loop gathers sixteen entries of both tables a trip, and the two gathered chunks are copied out.
  The task's triple says exactly what the chunks of the results hold afterwards.
-/
module

public import proofs.«01_k».proof.Proof.Launch
public import Idealize.ShloMosaic.Lib.WritesUnit

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ)

-- the kernel's memrefs as the body table passes them
local notation "svW" => (Memref.whole Cert.KernelIdeal.main_v21_scv : Memref Cert.KernelIdeal.sig Kind.scVector Space.hbm Cert.KernelIdeal.S1024 EltTy.f32)
local notation "ridW" => (Memref.whole Cert.KernelIdeal.main_v33_scv : Memref Cert.KernelIdeal.sig Kind.scVector Space.hbm Cert.KernelIdeal.S1024 EltTy.i32)
local notation "xW" => (Memref.whole Cert.KernelIdeal.main_v34_scv : Memref Cert.KernelIdeal.sig Kind.scVector Space.hbm Cert.KernelIdeal.S819200 EltTy.i32)
local notation "o1W" => (Memref.whole Cert.KernelIdeal.main_v35_0_scv : Memref Cert.KernelIdeal.sig Kind.scVector Space.hbm Cert.KernelIdeal.S819200 EltTy.f32)
local notation "o2W" => (Memref.whole Cert.KernelIdeal.main_v35_1_scv : Memref Cert.KernelIdeal.sig Kind.scVector Space.hbm Cert.KernelIdeal.S819200 EltTy.i32)
local notation "bS" => (Memref.whole Cert.KernelIdeal.cc0_scratch0 : Memref Cert.KernelIdeal.sig Kind.scVector Space.vmem Cert.KernelIdeal.S1024 EltTy.f32)
local notation "bR" => (Memref.whole Cert.KernelIdeal.cc0_scratch1 : Memref Cert.KernelIdeal.sig Kind.scVector Space.vmem Cert.KernelIdeal.S1024 EltTy.i32)
local notation "bX" => (Memref.whole Cert.KernelIdeal.cc0_scratch2 : Memref Cert.KernelIdeal.sig Kind.scVector Space.vmem Cert.KernelIdeal.S25600 EltTy.i32)
local notation "bV" => (Memref.whole Cert.KernelIdeal.cc0_scratch3 : Memref Cert.KernelIdeal.sig Kind.scVector Space.vmem Cert.KernelIdeal.S25600 EltTy.f32)
local notation "bK" => (Memref.whole Cert.KernelIdeal.cc0_scratch4 : Memref Cert.KernelIdeal.sig Kind.scVector Space.vmem Cert.KernelIdeal.S25600 EltTy.i32)

section Tile

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := Fin.cast (show grid0.bound 0 = 2 from rfl) (L 0)
abbrev iL (L : grid0.Coords) : Fin 16 := Fin.cast (show grid0.bound 1 = 16 from rfl) (L 1)
/-- The thread of tile `L`. -/
abbrev tV (d : Dev nD) (L : grid0.Coords) : Thread nD τ := V d (cV L) (jV L)

/-- The tile's chunk as the body slices it out of the three 819200-element arrays. -/
abbrev rC (L : grid0.Coords) : Rect S819200 := Rect.unit (s := S819200) (k0_off1 L) S25600.size (k0_off1_inb L)
abbrev xK (L : grid0.Coords) : Memref sig .scVector .hbm S25600 .i32 := (xW).slice (rC L) (fun _ => rfl)
abbrev o1K (L : grid0.Coords) : Memref sig .scVector .hbm S25600 .f32 := (o1W).slice (rC L) (fun _ => rfl)
abbrev o2K (L : grid0.Coords) : Memref sig .scVector .hbm S25600 .i32 := (o2W).slice (rC L) (fun _ => rfl)

/-- Element `j` of the chunk is element `51200·(subcore) + 25600·(core) + j` of the array. -/
theorem rC_emb_val (j : S25600.Idx) : ((rC L).emb j 0).val = 51200 * (L 1).val + 25600 * (L 0).val + (j 0).val := by
  show (k0_off1 L) 0 + 1 * (j 0).val = _
  rw [k0_off1_eq]
  show (51200 * (L 1).val + 25600 * (L 0).val) + 1 * (j 0).val = _
  omega

theorem rC_set : (rC L).set = chunk (cL L) (iL L) := by
  ext j
  rw [Rect.mem_set_unit]
  unfold chunk
  rw [Finset.mem_filter, k0_off1_eq]
  constructor
  · intro h; exact ⟨Finset.mem_univ _, h 0⟩
  · rintro ⟨-, h⟩ a
    obtain rfl : a = 0 := Subsingleton.elim _ _
    exact h

theorem set_xK : (xK L).view.set = chunk (cL L) (iL L) := by
  rw [← rC_set]; exact (View.set_slice _ _).trans Finset.map_refl
theorem set_o1K : (o1K L).view.set = chunk (cL L) (iL L) := by
  rw [← rC_set]; exact (View.set_slice _ _).trans Finset.map_refl
theorem set_o2K : (o2K L).view.set = chunk (cL L) (iL L) := by
  rw [← rC_set]; exact (View.set_slice _ _).trans Finset.map_refl

theorem pts_xK (f : Buf (Elt F) (xLoc d)) :
    ((xK L).view.loc (tV d L) ↦[(xK L).view.set]{fullShare} f : sProp 𝕄) = xLoc d ↦[chunk (cL L) (iL L)]{fullShare} f := by rw [set_xK]
theorem pts_o1K (f : Buf (Elt F) (o1Loc d)) :
    ((o1K L).view.loc (tV d L) ↦[(o1K L).view.set]{fullShare} f : sProp 𝕄) = o1Loc d ↦[chunk (cL L) (iL L)]{fullShare} f := by rw [set_o1K]
theorem pts_o2K (f : Buf (Elt F) (o2Loc d)) :
    ((o2K L).view.loc (tV d L) ↦[(o2K L).view.set]{fullShare} f : sProp 𝕄) = o2Loc d ↦[chunk (cL L) (iL L)]{fullShare} f := by rw [set_o2K]
theorem pts_sv (q : PosShare TreeShare) (f : Buf (Elt F) (svLoc d)) :
    ((svW).view.loc (tV d L) ↦{q} f : sProp 𝕄) = svLoc d ↦{q} f := rfl
theorem pts_rid (q : PosShare TreeShare) (f : Buf (Elt F) (ridLoc d)) :
    ((ridW).view.loc (tV d L) ↦{q} f : sProp 𝕄) = ridLoc d ↦{q} f := rfl

abbrev cell0 (d : Dev nD) (L : grid0.Coords) : GSem nD τ sig := (tV d L, .dma cc0_scoped0.sem)
abbrev cell1 (d : Dev nD) (L : grid0.Coords) : GSem nD τ sig := (tV d L, .dma cc0_scoped1.sem)
abbrev cell2 (d : Dev nD) (L : grid0.Coords) : GSem nD τ sig := (tV d L, .dma cc0_scoped2.sem)
abbrev cell3 (d : Dev nD) (L : grid0.Coords) : GSem nD τ sig := (tV d L, .dma cc0_scoped3.sem)
abbrev cell4 (d : Dev nD) (L : grid0.Coords) : GSem nD τ sig := (tV d L, .dma cc0_scoped4.sem)

theorem cell_ne {s s' : DmaSem sig} (h : s ≠ s') : ((tV d L, .dma s) : GSem nD τ sig) ≠ (tV d L, .dma s') :=
  fun e => h (SemLoc.dma.inj (Prod.mk.inj e).2)

/-- The five scoped counters the task uses are among the tile's own: they are them and the rest. -/
theorem ownSems0_V :
    (ownSems0 (tV d L) : sProp 𝕄)
      = iprop(semVal (cell0 d L) 0 ∗ semVal (cell1 d L) 0 ∗ semVal (cell2 d L) 0 ∗ semVal (cell3 d L) 0 ∗ semVal (cell4 d L) 0
          ∗ bigSep ((((((ownCells (tV d L)).erase (cell0 d L)).erase (cell1 d L)).erase (cell2 d L)).erase (cell3 d L)).erase (cell4 d L))
              fun g => semVal g 0) := by
  unfold SparseCore.Cfg.ownSems0
  have hm : ∀ s : DmaSem sig, (SemLoc.dma s : SemLoc sig).isScoped .scVector = true → ((tV d L, .dma s) : GSem nD τ sig) ∈ ownCells (tV d L) :=
    fun s h => (mem_ownCells (g := (tV d L, .dma s))).mpr ⟨rfl, h⟩
  rw [SparseCore.bigSep_erase' (hm cc0_scoped0.sem (by decide)),
    SparseCore.bigSep_erase' (Finset.mem_erase.mpr ⟨cell_ne d L (by decide), hm cc0_scoped1.sem (by decide)⟩),
    SparseCore.bigSep_erase' (Finset.mem_erase.mpr ⟨cell_ne d L (by decide), Finset.mem_erase.mpr ⟨cell_ne d L (by decide), hm cc0_scoped2.sem (by decide)⟩⟩),
    SparseCore.bigSep_erase' (Finset.mem_erase.mpr ⟨cell_ne d L (by decide), Finset.mem_erase.mpr ⟨cell_ne d L (by decide), Finset.mem_erase.mpr ⟨cell_ne d L (by decide),
      hm cc0_scoped3.sem (by decide)⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), hm cc0_scoped4.sem (by decide)⟩⟩⟩⟩)]

/-- A scratch buffer of the tile's, as one of its own references. -/
abbrev oref (L : grid0.Coords) (b : Ref sig .scVector) : DevRef τ sig := (Proc.scVector (cV L) (jV L)).devRef b

theorem oref_ne {b b' : Ref sig .scVector} (h : b ≠ b') : oref L b ≠ oref L b' := fun e => h (Proc.devRef_injective _ e)

/-- The five scratch buffers are among the tile's own: they are them, each at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f) ∗ (∃ f, (tV d L).loc cc0_scratch3 ↦{fullShare} f)
          ∗ (∃ f, (tV d L).loc cc0_scratch4 ↦{fullShare} f)
          ∗ bigSep ((((((ownRefs (τ := τ) (.scVector (cV L) (jV L))).erase (oref L cc0_scratch0)).erase (oref L cc0_scratch1)).erase
              (oref L cc0_scratch2)).erase (oref L cc0_scratch3)).erase (oref L cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := oref L cc0_scratch0) rfl)).trans ?_
  rw [SparseCore.bigSep_erase' (Finset.mem_erase.mpr ⟨oref_ne L (show (cc0_scratch1 : Ref sig .scVector) ≠ cc0_scratch0 by decide),
      SparseCore.Cfg.mem_ownRefs_of_owner (p := Proc.scVector (cV L) (jV L)) (b := oref L cc0_scratch1) rfl⟩),
    SparseCore.bigSep_erase' (Finset.mem_erase.mpr ⟨oref_ne L (show (cc0_scratch2 : Ref sig .scVector) ≠ cc0_scratch1 by decide),
      Finset.mem_erase.mpr ⟨oref_ne L (show (cc0_scratch2 : Ref sig .scVector) ≠ cc0_scratch0 by decide),
      SparseCore.Cfg.mem_ownRefs_of_owner (p := Proc.scVector (cV L) (jV L)) (b := oref L cc0_scratch2) rfl⟩⟩),
    SparseCore.bigSep_erase' (Finset.mem_erase.mpr ⟨oref_ne L (show (cc0_scratch3 : Ref sig .scVector) ≠ cc0_scratch2 by decide),
      Finset.mem_erase.mpr ⟨oref_ne L (show (cc0_scratch3 : Ref sig .scVector) ≠ cc0_scratch1 by decide),
      Finset.mem_erase.mpr ⟨oref_ne L (show (cc0_scratch3 : Ref sig .scVector) ≠ cc0_scratch0 by decide),
      SparseCore.Cfg.mem_ownRefs_of_owner (p := Proc.scVector (cV L) (jV L)) (b := oref L cc0_scratch3) rfl⟩⟩⟩),
    SparseCore.bigSep_erase' (Finset.mem_erase.mpr ⟨oref_ne L (show (cc0_scratch4 : Ref sig .scVector) ≠ cc0_scratch3 by decide),
      Finset.mem_erase.mpr ⟨oref_ne L (show (cc0_scratch4 : Ref sig .scVector) ≠ cc0_scratch2 by decide),
      Finset.mem_erase.mpr ⟨oref_ne L (show (cc0_scratch4 : Ref sig .scVector) ≠ cc0_scratch1 by decide),
      Finset.mem_erase.mpr ⟨oref_ne L (show (cc0_scratch4 : Ref sig .scVector) ≠ cc0_scratch0 by decide),
      SparseCore.Cfg.mem_ownRefs_of_owner (p := Proc.scVector (cV L) (jV L)) (b := oref L cc0_scratch4) rfl⟩⟩⟩⟩)]

/-- The chunk of the ids the tile reads. -/
def xc : S25600.Idx → BitVec 32 := fun j => (m (xLoc d) : S819200.Idx → BitVec 32) ((rC L).emb j)
/-- The gathered chunks. -/
def vc : S25600.Idx → F .f32 := fun j => (m (svLoc d) : S1024.Idx → F .f32) (entry (xc m d L j))
def kc : S25600.Idx → BitVec 32 := fun j => (m (ridLoc d) : S1024.Idx → BitVec 32) (entry (xc m d L j))

/-- Before trip `k`: the tables and the ids in the tile's buffers, and the first `16·k` positions gathered. -/
def inv (k : Nat) (_ : PUnit) : sProp 𝕄 :=
  iprop(((bS).view.loc (tV d L) ↦{fullShare} (m (svLoc d) : S1024.Idx → F .f32))
    ∗ ((bR).view.loc (tV d L) ↦{fullShare} (m (ridLoc d) : S1024.Idx → BitVec 32))
    ∗ ((bX).view.loc (tV d L) ↦{fullShare} xc m d L)
    ∗ (∃ f : S25600.Idx → F .f32, ⌜∀ j : S25600.Idx, (j 0).val < 16 * k → f j = vc m d L j⌝ ∗ (bV).view.loc (tV d L) ↦{fullShare} f)
    ∗ (∃ f : S25600.Idx → BitVec 32, ⌜∀ j : S25600.Idx, (j 0).val < 16 * k → f j = kc m d L j⌝ ∗ (bK).view.loc (tV d L) ↦{fullShare} f))

variable [FloatOps F] [Named F]

/-- What trip `k` loads of the ids: positions `16·k` to `16·k + 15` of the chunk. -/
abbrev ids (k : Fin k0_t1_loop.trips) : Vec F S16 .i32 :=
  (bX : Memref sig .scVector .vmem S25600 .i32).view.readAt (Elt F) (Rect.unit (s := S25600) (k0_off2 k) S16.size (k0_off2_inb k)).toLoadRect (xc m d L)

omit [FloatOps F] [Named F] in
theorem ids_lt (hpre : IdsOK m) (k : Fin k0_t1_loop.trips) (x : S16.Idx) : ((ids m d L k : S16.Idx → BitVec 32) x).toNat < 1024 := hpre d _

omit [FloatOps F] [Named F] in
/-- Lane `x` of trip `k` is position `16·k + x` of the chunk. -/
theorem ids_eq (k : Fin k0_t1_loop.trips) (x : S16.Idx) (j : S25600.Idx) (h : (j 0).val = 16 * k.val + (x 0).val) :
    (ids m d L k : S16.Idx → BitVec 32) x = xc m d L j := by
  show xc m d L _ = xc m d L j
  refine congrArg (xc m d L) (funext fun a : Fin 1 => Fin.ext ?_)
  obtain rfl : a = 0 := Subsingleton.elim _ _
  show (k0_off2 k) 0 + 1 * (x 0).val = _
  rw [k0_off2_eq, h]
  show 16 * k.val + 1 * (x 0).val = _
  omega

omit [FloatOps F] [Named F] in
/-- An index of the tables below 1024 is the entry it names. -/
theorem idxAt_entry (v : Vec F S16 .i32) (h : ∀ a x, ((![v] : Fin 1 → IVec S16 32) a x).toNat < S1024.size a) (x : S16.Idx) :
    (idxAt (![v] : Fin S1024.rank → IVec S16 32) h x : S1024.Idx) = entry ((v : S16.Idx → BitVec 32) x) := by
  funext a
  obtain rfl : a = 0 := Subsingleton.elim _ _
  apply Fin.ext
  show ((v : S16.Idx → BitVec 32) x).toNat = ((v : S16.Idx → BitVec 32) x).toNat % 1024
  exact (Nat.mod_eq_of_lt (h 0 x)).symm

omit [FloatOps F] [Named F] in
/-- Storing sixteen right values at position `16·k` of a buffer that reads right below it leaves it right below `16·(k+1)`. -/
theorem stored {e : EltTy} (v : View sig .scVector .vmem S25600 e) (f : v.ty.Contents (Elt F)) (k : Fin k0_t1_loop.trips)
    (w : (Rect.unit (s := S25600) (k0_off3 k) S16.size (k0_off3_inb k)).shape.Idx → Elt F e) (G : S25600.Idx → Elt F e)
    (hf : ∀ j : S25600.Idx, (j 0).val < 16 * k.val → v.read (Elt F) f j = G j)
    (hw : ∀ (x : S16.Idx) (j : S25600.Idx), (j 0).val = 16 * k.val + (x 0).val → w x = G j)
    (j : S25600.Idx) (hj : (j 0).val < 16 * (k.val + 1)) :
    v.read (Elt F) (v.writes (Elt F) f [⟨Rect.unit (s := S25600) (k0_off3 k) S16.size (k0_off3_inb k), w⟩]) j = G j := by
  by_cases h : (j 0).val < 16 * k.val
  · rw [View.read_writes_cons_unit_of_not_mem v f (k0_off3_inb k) w [] j (k0_off3_eq k) 0 (Or.inl h)]
    exact hf j h
  · have hx : (j 0).val - 16 * k.val < 16 := by omega
    refine (View.read_writes_cons_unit_of_mem v f (k0_off3_inb k) w [] j
      (fun | 0 => ⟨(j 0).val - 16 * k.val, hx⟩ : S16.Idx) (k0_off3_eq k) fun a => ?_).trans (hw _ _ ?_)
    · obtain rfl : a = 0 := Subsingleton.elim _ _
      show (j 0).val = 16 * k.val + ((j 0).val - 16 * k.val)
      omega
    · show (j 0).val = 16 * k.val + ((j 0).val - 16 * k.val)
      omega

omit [FloatOps F] [Named F] in
/-- A store of a whole view puts the payload's element where the view does. -/
theorem whole_emb {κ : Kind} {sp : Space} {s : Shape} {e : EltTy} (v : View sig κ sp s e) (f : v.ty.Contents (Elt F)) (w : s.Idx → Elt F e) (j : s.Idx) :
    v.read (Elt F) (v.writes (Elt F) f [⟨Rect.whole s, w⟩]) j = w j := congrFun (View.read_writes_whole v f w) j

omit [FloatOps F] [Named F] in
/-- Copying the gathered chunks out leaves the results gathered at the chunk. -/
theorem out1 (f : Buf (Elt F) (o1Loc d)) : ∀ i ∈ (o1K L).view.set,
    (o1K L).view.writes (Elt F) f [⟨Rect.whole S25600, vc m d L⟩] i = gath1 m d i := by
  intro i hi
  obtain ⟨j, -, rfl⟩ := Finset.mem_map.1 hi
  have h1 := whole_emb (o1K L).view f (vc m d L) j
  have h2 : vc m d L j = gath1 m d ((o1K L).view.emb j) := rfl
  exact (cast_eq rfl _).symm.trans (h1.trans h2)
omit [FloatOps F] [Named F] in
theorem out2 (f : Buf (Elt F) (o2Loc d)) : ∀ i ∈ (o2K L).view.set,
    (o2K L).view.writes (Elt F) f [⟨Rect.whole S25600, kc m d L⟩] i = gath2 m d i := by
  intro i hi
  obtain ⟨j, -, rfl⟩ := Finset.mem_map.1 hi
  have h1 := whole_emb (o2K L).view f (kc m d L) j
  have h2 : kc m d L j = gath2 m d ((o2K L).view.emb j) := rfl
  exact (cast_eq rfl _).symm.trans (h1.trans h2)

omit [FloatOps F] [Named F] in
/-- The loop's trips cover the chunk. -/
theorem trips_eq : 25600 = 16 * k0_t1_loop.trips := by decide +kernel

/-- One trip: the sixteen ids are loaded, both tables gathered at them and both results stored. -/
theorem trip (hpre : IdsOK m) (k : Fin k0_t1_loop.trips) (u : Unit) :
    inv m d L k.val u ⊢ wp frame (wpE (defs₀ (F := F)) 𝒱₀ (tV d L) none) Set.univ
      (k0_t1_body (F := F) L svW (Memref.isWhole_whole _) ridW (Memref.isWhole_whole _) xW (Memref.isWhole_whole _) o1W (Memref.isWhole_whole _)
        o2W (Memref.isWhole_whole _) bS (Memref.isWhole_whole _) bR (Memref.isWhole_whole _) bX (Memref.isWhole_whole _) bV (Memref.isWhole_whole _)
        bK (Memref.isWhole_whole _) cc0_scoped0 cc0_scoped1 cc0_scoped2 cc0_scoped3 cc0_scoped4 k u)
      fun u' => inv m d L (k.val + 1) u' := by
  have hchk : k0_chk1 (ids m d L k) := by
    refine ⟨fun a x => ?_, fun a x => ?_⟩
    all_goals
      obtain rfl : a = 0 := Subsingleton.elim _ _
      exact ids_lt m d L hpre k x
  unfold k0_t1_body
  unfold inv
  iintro ⟨HS, HR, HX, ⟨%f, %hf, HV⟩, ⟨%g, %hg, HK⟩⟩
  unfold SparseCore.vectorLoadIdx
  sl_exec
  sl_step
  isplitl [HS]; · iexact HS
  isplitl [HR]; · iexact HR
  isplitl [HX]; · iexact HX
  isplitl [HV]
  · iexists _; isplitr
    rotate_left
    · iexact HV
    · ipureintro
      refine stored (F := F) (bV).view f k _ (vc m d L) hf fun x j hx => ?_
      show (m (svLoc d) : S1024.Idx → F .f32) ((LoadRect.whole S1024).idx (idxAt _ _ x)) = _
      rw [LoadRect.idx_whole, idxAt_entry]
      exact congrArg (fun v => (m (svLoc d) : S1024.Idx → F .f32) (entry v)) (ids_eq m d L k x j hx)
  · iexists _; isplitr
    rotate_left
    · iexact HK
    · ipureintro
      refine stored (F := F) (bK).view g k _ (kc m d L) hg fun x j hx => ?_
      show (m (ridLoc d) : S1024.Idx → BitVec 32) ((LoadRect.whole S1024).idx (idxAt _ _ x)) = _
      rw [LoadRect.idx_whole, idxAt_entry]
      exact congrArg (fun v => (m (ridLoc d) : S1024.Idx → BitVec 32) (entry v)) (ids_eq m d L k x j hx)

/-- The task on tile `L` of device `d`: from its part of the call's operands to its part of the results, the chunks
    gathered; its scratch and its counters as it found them, and nothing recorded waited for but its own transfers. -/
theorem tile_body (hF : (K (F := F)).Facts) (hpre : IdsOK m) (O : CellTallies nD τ sig (HIx 1)) (W : Waits sig (HIx 1)) (hO : ∀ g, O g none = 0) :
    iprop(levAts (K (F := F)).L (K (F := F)).lev ∗ emp ∗ tileIn m d (cL L) (iL L)
        ∗ scopedBufs (tV d L) ∗ scopedSems0 (tV d L) ∗ owes (tV d L) O W)
      ⊢ wp frame (wpE (defs₀ (F := F)) 𝒱₀ (tV d L) none) Set.univ
          (cc0__gather_body (F := F) L svW (Memref.isWhole_whole _) ridW (Memref.isWhole_whole _) xW (Memref.isWhole_whole _) o1W (Memref.isWhole_whole _)
            o2W (Memref.isWhole_whole _) bS (Memref.isWhole_whole _) bR (Memref.isWhole_whole _) bX (Memref.isWhole_whole _) bV (Memref.isWhole_whole _)
            bK (Memref.isWhole_whole _) cc0_scoped0 cc0_scoped1 cc0_scoped2 cc0_scoped3 cc0_scoped4)
          fun _ => iprop(tileOut m d (cL L) (iL L) ∗ scopedBufs (tV d L) ∗ scopedSems0 (tV d L)
            ∗ ∃ W', ⌜∀ p ∈ W', p ∈ W ∨ p.2 = none⌝ ∗ owes (tV d L) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold tileIn
  iintro ⟨#Hlv, -, ⟨Hsv, Hrid, Hx, Ho1, Ho2⟩, ⟨⟨%f0, HS⟩, ⟨%f1, HR⟩, ⟨%f2, HX⟩, ⟨%f3, HV⟩, ⟨%f4, HK⟩, Hbufs⟩,
    ⟨H0, H1, H2, H3, H4, Hsems⟩, HO⟩
  ihave Hmw := (show levAts (K (F := F)).L (K (F := F)).lev ⊢ Transfers.MayWaits (tV d L) (default : HIx 1) O from
    (K (F := F)).mayWaits_none (thr := tV d L) hO) $$ Hlv
  ihave Hsv' := (Entails.of_eq (pts_sv (F := F) d L _ _).symm) $$ Hsv
  ihave Hrid' := (Entails.of_eq (pts_rid (F := F) d L _ _).symm) $$ Hrid
  ihave Hx' := (Entails.of_eq (pts_xK (F := F) d L _).symm) $$ Hx
  ihave Ho1' := (Entails.of_eq (pts_o1K (F := F) d L _).symm) $$ Ho1
  ihave Ho2' := (Entails.of_eq (pts_o2K (F := F) d L _).symm) $$ Ho2
  ihave HS' := (Entails.of_eq (show ((tV d L).loc cc0_scratch0 ↦{fullShare} f0 : sProp 𝕄) = (bS).view.loc (tV d L) ↦{fullShare} f0 from rfl)) $$ HS
  ihave HR' := (Entails.of_eq (show ((tV d L).loc cc0_scratch1 ↦{fullShare} f1 : sProp 𝕄) = (bR).view.loc (tV d L) ↦{fullShare} f1 from rfl)) $$ HR
  ihave HX' := (Entails.of_eq (show ((tV d L).loc cc0_scratch2 ↦{fullShare} f2 : sProp 𝕄) = (bX).view.loc (tV d L) ↦{fullShare} f2 from rfl)) $$ HX
  ihave HV' := (Entails.of_eq (show ((tV d L).loc cc0_scratch3 ↦{fullShare} f3 : sProp 𝕄) = (bV).view.loc (tV d L) ↦{fullShare} f3 from rfl)) $$ HV
  ihave HK' := (Entails.of_eq (show ((tV d L).loc cc0_scratch4 ↦{fullShare} f4 : sProp 𝕄) = (bK).view.loc (tV d L) ↦{fullShare} f4 from rfl)) $$ HK
  sl_exec
  sl_for (inv m d L) $$ [HS' HR' HX' HV' HK']
  case region => exact fun k u => trip m d L hpre k u
  · unfold inv
    isplitl [HS']; · iapply (Entails.of_eq (congrArg (fun f => ((bS).view.loc (tV d L) ↦{fullShare} f : sProp 𝕄)) (View.write_whole_univ (Val := Elt F) cc0_scratch0 f0 _))); iexact HS'
    isplitl [HR']; · iapply (Entails.of_eq (congrArg (fun f => ((bR).view.loc (tV d L) ↦{fullShare} f : sProp 𝕄)) (View.write_whole_univ (Val := Elt F) cc0_scratch1 f1 _))); iexact HR'
    isplitl [HX']; · iapply (Entails.of_eq (congrArg (fun f => ((bX).view.loc (tV d L) ↦{fullShare} f : sProp 𝕄)) (View.write_whole_univ (Val := Elt F) cc0_scratch2 f2 _))); iexact HX'
    isplitl [HV']
    · iexists f3; isplitr
      · ipureintro; intro j hj; omega
      · iexact HV'
    · iexists f4; isplitr
      · ipureintro; intro j hj; omega
      · iexact HK'
  iintro %_ HI
  unfold inv
  icases HI with ⟨HS, HR, HX, ⟨%f, %hf, HV⟩, ⟨%g, %hg, HK⟩⟩
  have hV : f = vc m d L := funext fun j => hf j (lt_of_lt_of_eq (j 0).isLt trips_eq)
  have hK : g = kc m d L := funext fun j => hg j (lt_of_lt_of_eq (j 0).isLt trips_eq)
  subst hV hK
  sl_exec
  sl_step
  isplitl [Hsv' Hrid' Hx' Ho1' Ho2']
  · unfold tileOut
    isplitl [Hsv']; · iexact Hsv'
    isplitl [Hrid']; · iexact Hrid'
    isplitl [Hx']; · iapply (Entails.of_eq (pts_xK (F := F) d L _)); iexact Hx'
    isplitl [Ho1']
    · iapply (Entails.of_eq (pts_o1K (F := F) d L _))
      iapply (Entails.of_eq (pointsTo_congr (out1 m d L (m (o1Loc d)))))
      iexact Ho1'
    · iapply (Entails.of_eq (pts_o2K (F := F) d L _))
      iapply (Entails.of_eq (pointsTo_congr (out2 m d L (m (o2Loc d)))))
      iexact Ho2'
  isplitl [HS HR HX HV HK Hbufs]
  · isplitl [HS]; · iexists _; iexact HS
    isplitl [HR]; · iexists _; iexact HR
    isplitl [HX]; · iexists _; iexact HX
    isplitl [HV]; · iexists _; iexact HV
    isplitl [HK]; · iexists _; iexact HK
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexists _; isplitr
  rotate_left
  · iexact HO
  · ipureintro; intro p hp
    rcases Finset.mem_insert.mp hp with rfl | hp; · exact .inr rfl
    rcases Finset.mem_insert.mp hp with rfl | hp; · exact .inr rfl
    rcases Finset.mem_insert.mp hp with rfl | hp; · exact .inr rfl
    rcases Finset.mem_insert.mp hp with rfl | hp; · exact .inr rfl
    rcases Finset.mem_insert.mp hp with rfl | hp; · exact .inr rfl
    exact .inl hp

end Tile

/-! ## The launch theorem's obligation -/

/-- A tile's grid coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))

variable [FloatOps F] [Named F]

theorem defs₀_vector (c : Fin τ.nSC) (s : Fin τ.nSub) :
    defs₀ (F := F) (.scVector c s) 0 ()
      = SparseCore.onTile hcore0 hsub0 (fun c s => cc0__gather_body (coordsV c s)
          svW (Memref.isWhole_whole _) ridW (Memref.isWhole_whole _) xW (Memref.isWhole_whole _) o1W (Memref.isWhole_whole _)
            o2W (Memref.isWhole_whole _) bS (Memref.isWhole_whole _) bR (Memref.isWhole_whole _) bX (Memref.isWhole_whole _) bV (Memref.isWhole_whole _)
            bK (Memref.isWhole_whole _) cc0_scoped0 cc0_scoped1 cc0_scoped2 cc0_scoped3 cc0_scoped4) ⟨⟩ c s := rfl

omit [FloatOps F] [Named F] in
/-- What a tile records for its own transfers is within what the launch lets it record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch asks for it. -/
theorem tileObl (hF : (K (F := F)).Facts) (hpre : IdsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.Run

end
-- ==== Proof.Split.lean ====
/-
  The SparseCore call's operands and results cut into the thirty-two tiles' parts: the five arrays, held whole, are the
  tiles' parts and what is left of the two tables' shares, and back after the call with the results gathered.
-/
module

public import proofs.«01_k».proof.Proof.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable (m : (ℓ : Loc nD τ sig) → Buf (Elt F) ℓ)

/-- The tiles numbered `16·core + subcore`. -/
def tileNo : Fin 2 × Fin 16 ↪ ℕ :=
  ⟨fun p => 16 * p.1.val + p.2.val, fun p p' h => by
    have h' : 16 * p.1.val + p.2.val = 16 * p'.1.val + p'.2.val := h
    have h1 := p.2.isLt
    have h2 := p'.2.isLt
    exact Prod.ext (Fin.ext (by omega)) (Fin.ext (by omega))⟩

theorem tileNo_map : (Finset.univ : Finset (Fin 2 × Fin 16)).map tileNo = Finset.range 32 := by decide

/-- A family over the numbers below 32 is one over the cores and the subcores. -/
theorem bigSep_tiles (Φ : ℕ → sProp 𝕄) :
    bigSep (Finset.range 32) Φ = bigSep Finset.univ fun c : Fin 2 => bigSep Finset.univ fun i : Fin 16 => Φ (16 * c.val + i.val) := by
  rw [← tileNo_map, bigSep_map, bigSep_univ_prod]; rfl

theorem chunk_disjoint : ∀ p ∈ (Finset.univ : Finset (Fin 2 × Fin 16)), ∀ p' ∈ (Finset.univ : Finset (Fin 2 × Fin 16)), p ≠ p' →
    Disjoint (chunk p.1 p.2) (chunk p'.1 p'.2) := by
  intro p _ p' _ hne
  rw [Finset.disjoint_left]
  intro j h h'
  obtain ⟨-, h1, h2⟩ := Finset.mem_filter.1 h
  obtain ⟨-, h3, h4⟩ := Finset.mem_filter.1 h'
  have b1 := p.1.isLt
  have b2 := p'.1.isLt
  exact hne (Prod.ext (Fin.ext (by omega)) (Fin.ext (by omega)))

theorem chunk_cover : ((Finset.univ : Finset (Fin 2 × Fin 16)).biUnion fun p => chunk p.1 p.2) = Finset.univ := by
  refine Finset.eq_univ_iff_forall.2 fun j => Finset.mem_biUnion.2 ?_
  have hj : (j 0).val < 819200 := (j 0).isLt
  refine ⟨(⟨(j 0).val / 25600 % 2, by omega⟩, ⟨(j 0).val / 51200, by omega⟩), Finset.mem_univ _, Finset.mem_filter.2 ⟨Finset.mem_univ _, ?_, ?_⟩⟩
  · show 51200 * ((j 0).val / 51200) + 25600 * ((j 0).val / 25600 % 2) ≤ (j 0).val
    omega
  · show (j 0).val < 51200 * ((j 0).val / 51200) + 25600 * ((j 0).val / 25600 % 2) + 25600
    omega

/-- An array held whole is disjoint pieces that cover it, one a tile. -/
theorem pieces (ℓ : Loc nD τ sig) (C : Fin 2 → Fin 16 → Finset (Idx ℓ)) (f : Buf (Elt F) ℓ)
    (hd : ∀ p ∈ (Finset.univ : Finset (Fin 2 × Fin 16)), ∀ p' ∈ (Finset.univ : Finset (Fin 2 × Fin 16)), p ≠ p' → Disjoint (C p.1 p.2) (C p'.1 p'.2))
    (hc : ((Finset.univ : Finset (Fin 2 × Fin 16)).biUnion fun p => C p.1 p.2) = Finset.univ) :
    (bigSep Finset.univ fun c : Fin 2 => bigSep Finset.univ fun i : Fin 16 => (ℓ ↦[C c i]{fullShare} f : sProp 𝕄)) = ℓ ↦{fullShare} f := by
  rw [← bigSep_univ_prod (fun p : Fin 2 × Fin 16 => (ℓ ↦[C p.1 p.2]{fullShare} f : sProp 𝕄)), ← pointsTo_biUnion _ _ hd, hc]

/-- A table held whole is a share for each tile and the share left over. -/
theorem shares (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tq c i} f) := by
  have h := Transfers.pointsTo_toks_range (nD := nD) (τ := τ) (sig := sig) (Ix := HIx 1) (Val := Elt F) (Name := ℕ) (U := UU) (Lvl := ℕ) (ℓ := ℓ) (S := Finset.univ) (f := f) fullShare 32
  rw [bigSep_tiles] at h
  exact h

/-- The five arrays of the call at given contents. -/
def callArrs (d : Dev nD) (f1 : Buf (Elt F) (o1Loc d)) (f2 : Buf (Elt F) (o2Loc d)) : sProp 𝕄 :=
  iprop((svLoc d ↦{fullShare} m (svLoc d)) ∗ (ridLoc d ↦{fullShare} m (ridLoc d)) ∗ (xLoc d ↦{fullShare} m (xLoc d))
    ∗ (o1Loc d ↦{fullShare} f1) ∗ (o2Loc d ↦{fullShare} f2))

/-- What is left of the two tables while the tiles hold their shares. -/
def callRest (d : Dev nD) : sProp 𝕄 :=
  iprop((svLoc d ↦{Transfers.shareDrop fullShare 32} m (svLoc d)) ∗ (ridLoc d ↦{Transfers.shareDrop fullShare 32} m (ridLoc d)))

theorem tiles_sep2 (A B : Fin 2 → Fin 16 → sProp 𝕄) :
    (bigSep Finset.univ fun c => bigSep Finset.univ fun i => iprop(A c i ∗ B c i))
      = iprop((bigSep Finset.univ fun c => bigSep Finset.univ fun i => A c i) ∗ (bigSep Finset.univ fun c => bigSep Finset.univ fun i => B c i)) :=
  (bigSep_congr fun c _ => BI.bigSep_sep Finset.univ (A c) (B c)).trans
    (BI.bigSep_sep Finset.univ (fun c => bigSep Finset.univ fun i => A c i) (fun c => bigSep Finset.univ fun i => B c i))

theorem tiles_sep (A B C D E : Fin 2 → Fin 16 → sProp 𝕄) :
    (bigSep Finset.univ fun c => bigSep Finset.univ fun i => iprop(A c i ∗ B c i ∗ C c i ∗ D c i ∗ E c i))
      = iprop((bigSep Finset.univ fun c => bigSep Finset.univ fun i => A c i) ∗ (bigSep Finset.univ fun c => bigSep Finset.univ fun i => B c i)
          ∗ (bigSep Finset.univ fun c => bigSep Finset.univ fun i => C c i) ∗ (bigSep Finset.univ fun c => bigSep Finset.univ fun i => D c i)
          ∗ (bigSep Finset.univ fun c => bigSep Finset.univ fun i => E c i)) := by
  rw [tiles_sep2 A (fun c i => iprop(B c i ∗ C c i ∗ D c i ∗ E c i)), tiles_sep2 B (fun c i => iprop(C c i ∗ D c i ∗ E c i)),
    tiles_sep2 C (fun c i => iprop(D c i ∗ E c i)), tiles_sep2 D E]

/-- The five arrays give every tile its part. -/
theorem call_in (d : Dev nD) :
    callArrs m d (m (o1Loc d)) (m (o2Loc d)) ⊢ iprop((bigSep Finset.univ fun c : Fin 2 => (P m).st 0 d c) ∗ callRest m d) := by
  show _ ⊢ iprop((bigSep Finset.univ fun c : Fin 2 => bigSep Finset.univ fun i : Fin 16 => tileIn m d c i) ∗ callRest m d)
  unfold tileIn callArrs callRest
  rw [tiles_sep, pieces (xLoc d) chunk _ chunk_disjoint chunk_cover, pieces (o1Loc d) chunk _ chunk_disjoint chunk_cover,
    pieces (o2Loc d) chunk _ chunk_disjoint chunk_cover]
  iintro ⟨HS, HR, HX, H1, H2⟩
  ihave HS := (shares (F := F) (svLoc d) _).1 $$ HS
  ihave HR := (shares (F := F) (ridLoc d) _).1 $$ HR
  icases HS with ⟨HS, HS'⟩
  icases HR with ⟨HR, HR'⟩
  isplitr [HS HR]
  · isplitl [HS']; · iexact HS'
    isplitl [HR']; · iexact HR'
    isplitl [HX]; · iexact HX
    isplitl [H1]; · iexact H1
    iexact H2
  · isplitl [HS]; · iexact HS
    iexact HR

/-- And the tiles' results make the five arrays, the results gathered. -/
theorem call_out (d : Dev nD) :
    iprop((bigSep Finset.univ fun c : Fin 2 => (P m).dn 0 d c) ∗ callRest m d) ⊢ callArrs m d (gath1 m d) (gath2 m d) := by
  show iprop((bigSep Finset.univ fun c : Fin 2 => bigSep Finset.univ fun i : Fin 16 => tileOut m d c i) ∗ callRest m d) ⊢ _
  unfold tileOut callArrs callRest
  rw [tiles_sep, pieces (xLoc d) chunk _ chunk_disjoint chunk_cover, pieces (o1Loc d) chunk _ chunk_disjoint chunk_cover,
    pieces (o2Loc d) chunk _ chunk_disjoint chunk_cover]
  iintro ⟨⟨HS', HR', HX, H1, H2⟩, HS, HR⟩
  isplitl [HS HS']
  · iapply (shares (F := F) (svLoc d) _).2
    isplitl [HS]; · iexact HS
    iexact HS'
  isplitl [HR HR']
  · iapply (shares (F := F) (ridLoc d) _).2
    isplitl [HR]; · iexact HR
    iexact HR'
  isplitl [HX]; · iexact HX
  isplitl [H1]; · iexact H1
  iexact H2

end Cert.Proof.Run

end
-- ==== Proof.Topk.lean ====
/-
  The TensorCore call's body at one grid point: what it leaves in its three buffers — the ten columns' successive minima
  of the keys, the prediction, and at the first point the attended table — as pure functions of the blocks it reads.
-/
module

public import proofs.«01_k».proof.Proof.Launch
public import Idealize.ShloMosaic.Lib.WritesUnit
public import Idealize.ShloMosaic.Lib.VecWindow
public import Idealize.ShloMosaic.Lib.Pipeline.FrameBody

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The rounds as pure functions -/

/-- A round's minimum of each row of the keys; the keys with it removed; its position; the counts with its id added. -/
def kmin (k : IVec S1024x200 32) : IVec S1024x1 32 := k1_pay9 k
def knext (k : IVec S1024x200 32) : IVec S1024x200 32 := k1_pay11 k
def kout (k : IVec S1024x200 32) : IVec S1024x1 32 := k1_pay10 k
def kcnt (v17 n : IVec S1024x1024 16) (k : IVec S1024x200 32) : IVec S1024x1024 16 :=
  addi n (select (cmpi .eq v17 (broadcastTo S1024x1024 (trunci 16 (andi (kmin k) (broadcast S1024x1 1023#32)) natLt_16_32) broadcasts_S1024x1_S1024x1024))
    (broadcast S1024x1024 1#16) (broadcast S1024x1024 0#16))

/-- The keys before round `n`. -/
def keys (k : IVec S1024x200 32) : ℕ → IVec S1024x200 32
  | 0 => k
  | n + 1 => knext (keys k n)

/-- The counts before round `n`. -/
def cnts (k : IVec S1024x200 32) : ℕ → IVec S1024x1024 16
  | 0 => broadcast S1024x1024 0#16
  | n + 1 => kcnt k1_pay4 (cnts k n) (keys k n)

/-- Row `r` of a one-column array. -/
def row1 (r : Fin 1024) : S1024x1.Idx := fun | 0 => r | 1 => ⟨0, by decide⟩

/-- The positions the body stores: column `j` is round `j`'s. -/
def topBlk (k : IVec S1024x200 32) : S1024x20.Idx → BitVec 32 := fun y => kout (keys k (y 1).val) (row1 ⟨(y 0).val, (y 0).isLt⟩)

section
variable [FloatOps F] [Named F]

/-- The last products: pooled by the counts, through the two layers. -/
def logit (cnt : IVec S1024x1024 16) (v416 : Vec F S1024x128 .f32) (v420 : Vec F S128x64 .f32) (v422 : Vec F S1x64 .f32) (v428 : Vec F S1x64 .f32) : FVec F S1024x1 .f32 :=
  shapeCast S1024x1 (multiReduction .add [1] S1024 (mulf (maximumf (addf (matmul dot_S1024x128_S128x64_S1024x64_1_0_0_1_n_n none
      (mulf (matmul dot_S1024x1024_S1024x128_S1024x128_1_0_0_1_n_n none (sitofp .f32 cnt) v416 (constant S1024x128 .f32 0x00000000#32))
        (broadcast S1024x128 (Named.named κ "inv_k" 0x3D4CCCCD#32))) v420 (constant S1024x64 .f32 0x00000000#32))
      (broadcastTo S1024x64 (shapeCast S1x64 v422 shapeCasts_S1x64_S1x64) broadcasts_S1x64_S1024x64))
      (broadcast S1024x64 (Scalar.ofBits .f32 0x00000000#32)))
      (broadcastTo S1024x64 (shapeCast S1x64 v428 shapeCasts_S1x64_S1x64) broadcasts_S1x64_S1024x64)) 0x00000000#32 reduces_S1024x64_S1024 (.inl rfl) rfl)
    shapeCasts_S1024_S1024x1

/-- The prediction block from the keys, the attended table and the last layers' weights. -/
def predBlk (k : IVec S1024x200 32) (att : S1024x128.Idx → F .f32) (x7 : S128x64.Idx → F .f32) (x8 x9 : S1x64.Idx → F .f32) (x10 : S1x1.Idx → F .f32) :
    S1024x1.Idx → F .f32 := k1_pay1 (logit (cnts k 20) att x7 x8 x9) x10

theorem out10 (k : IVec S1024x200 32) (n : ℕ) : k1_pay10 (keys k n) = kout (keys k n) := rfl
theorem out13 (k : IVec S1024x200 32) (n : ℕ) : k1_pay13 (keys k n) = kout (keys k (n + 1)) := rfl
theorem nxt15 (k : IVec S1024x200 32) (n : ℕ) : k1_pay15 (keys k n) = keys k (n + 2) := rfl
theorem cnt14 (k : IVec S1024x200 32) (n : ℕ) : k1_pay14 k1_pay4 (cnts k n) (keys k n) = cnts k (n + 2) := rfl
theorem out17 (k : IVec S1024x200 32) (n : ℕ) : k1_pay17 (keys k n) = kout (keys k n) := rfl
theorem out20 (k : IVec S1024x200 32) (n : ℕ) : k1_pay20 (keys k n) = kout (keys k (n + 1)) := rfl
theorem nxt22 (k : IVec S1024x200 32) (n : ℕ) : k1_pay22 (keys k n) = keys k (n + 2) := rfl
theorem cnt21 (k : IVec S1024x200 32) (n : ℕ) : k1_pay21 k1_pay4 (cnts k n) (keys k n) = cnts k (n + 2) := rfl
theorem out24 (k : IVec S1024x200 32) (n : ℕ) : k1_pay24 (keys k n) = kout (keys k n) := rfl
theorem out27 (k : IVec S1024x200 32) (n : ℕ) : k1_pay27 (keys k n) = kout (keys k (n + 1)) := rfl
theorem nxt29 (k : IVec S1024x200 32) (n : ℕ) : k1_pay29 (keys k n) = keys k (n + 2) := rfl
theorem cnt28 (k : IVec S1024x200 32) (n : ℕ) : k1_pay28 k1_pay4 (cnts k n) (keys k n) = cnts k (n + 2) := rfl
theorem out31 (k : IVec S1024x200 32) (n : ℕ) : k1_pay31 (keys k n) = kout (keys k n) := rfl
theorem out34 (k : IVec S1024x200 32) (n : ℕ) : k1_pay34 (keys k n) = kout (keys k (n + 1)) := rfl
theorem nxt36 (k : IVec S1024x200 32) (n : ℕ) : k1_pay36 (keys k n) = keys k (n + 2) := rfl
theorem cnt35 (k : IVec S1024x200 32) (n : ℕ) : k1_pay35 k1_pay4 (cnts k n) (keys k n) = cnts k (n + 2) := rfl
theorem out38 (k : IVec S1024x200 32) (n : ℕ) : k1_pay38 (keys k n) = kout (keys k n) := rfl
theorem out41 (k : IVec S1024x200 32) (n : ℕ) : k1_pay41 (keys k n) = kout (keys k (n + 1)) := rfl
theorem nxt43 (k : IVec S1024x200 32) (n : ℕ) : k1_pay43 (keys k n) = keys k (n + 2) := rfl
theorem cnt42 (k : IVec S1024x200 32) (n : ℕ) : k1_pay42 k1_pay4 (cnts k n) (keys k n) = cnts k (n + 2) := rfl
theorem out45 (k : IVec S1024x200 32) (n : ℕ) : k1_pay45 (keys k n) = kout (keys k n) := rfl
theorem out48 (k : IVec S1024x200 32) (n : ℕ) : k1_pay48 (keys k n) = kout (keys k (n + 1)) := rfl
theorem nxt50 (k : IVec S1024x200 32) (n : ℕ) : k1_pay50 (keys k n) = keys k (n + 2) := rfl
theorem cnt49 (k : IVec S1024x200 32) (n : ℕ) : k1_pay49 k1_pay4 (cnts k n) (keys k n) = cnts k (n + 2) := rfl
theorem out52 (k : IVec S1024x200 32) (n : ℕ) : k1_pay52 (keys k n) = kout (keys k n) := rfl
theorem out55 (k : IVec S1024x200 32) (n : ℕ) : k1_pay55 (keys k n) = kout (keys k (n + 1)) := rfl
theorem nxt57 (k : IVec S1024x200 32) (n : ℕ) : k1_pay57 (keys k n) = keys k (n + 2) := rfl
theorem cnt56 (k : IVec S1024x200 32) (n : ℕ) : k1_pay56 k1_pay4 (cnts k n) (keys k n) = cnts k (n + 2) := rfl
theorem out59 (k : IVec S1024x200 32) (n : ℕ) : k1_pay59 (keys k n) = kout (keys k n) := rfl
theorem out62 (k : IVec S1024x200 32) (n : ℕ) : k1_pay62 (keys k n) = kout (keys k (n + 1)) := rfl
theorem nxt64 (k : IVec S1024x200 32) (n : ℕ) : k1_pay64 (keys k n) = keys k (n + 2) := rfl
theorem cnt63 (k : IVec S1024x200 32) (n : ℕ) : k1_pay63 k1_pay4 (cnts k n) (keys k n) = cnts k (n + 2) := rfl
theorem out66 (k : IVec S1024x200 32) (n : ℕ) : k1_pay66 (keys k n) = kout (keys k n) := rfl
theorem out69 (k : IVec S1024x200 32) (n : ℕ) : k1_pay69 (keys k n) = kout (keys k (n + 1)) := rfl
theorem nxt71 (k : IVec S1024x200 32) (n : ℕ) : k1_pay71 (keys k n) = keys k (n + 2) := rfl
theorem cnt70 (k : IVec S1024x200 32) (n : ℕ) : k1_pay70 k1_pay4 (cnts k n) (keys k n) = cnts k (n + 2) := rfl
theorem out73 (k : IVec S1024x200 32) (n : ℕ) : k1_pay73 (keys k n) = kout (keys k n) := rfl
theorem last74 (k : IVec S1024x200 32) (n : ℕ) (v416 : Vec F S1024x128 .f32) (v420 : Vec F S128x64 .f32) (v422 : Vec F S1x64 .f32) (v428 : Vec F S1x64 .f32) :
    k1_pay74 k1_pay4 (cnts k n) (keys k n) v416 v420 v422 v428 = logit (cnts k (n + 1)) v416 v420 v422 v428 := rfl
theorem out6 (v : Vec F S1024x200 .i32) : k1_pay6 v = kout (keys (k1_pay3 v) 0) := rfl
theorem cnt7 (v : Vec F S1024x200 .i32) : k1_pay7 v = cnts (k1_pay3 v) 1 := rfl
theorem nxt8 (v : Vec F S1024x200 .i32) : k1_pay8 v = keys (k1_pay3 v) 1 := rfl

/-- The attended table after the body at a grid point: computed at the first, kept at the others. -/
def attAt (i : grid1.Coords) (x2 : S1024x128.Idx → Elt F .f32) (x3 : S128x128.Idx → Elt F .f32) (x4 : S1x128.Idx → Elt F .f32) (x5 : S128x128.Idx → Elt F .f32)
    (x6 : S1x128.Idx → Elt F .f32) (x13 : S1024x128.Idx → Elt F .f32) : S1024x128.Idx → Elt F .f32 :=
  if Scalar.cmpi .ne (Scalar.extui (Scalar.cmpi .eq (BitVec.ofNat 32 (i 0).val) 0#32) : BitVec 32) 0#32 = 1#1 then k1_pay2 x2 x3 x4 x5 x6 else x13

/-- The column stores of rounds below `n`, the last first. -/
def cols (w : ℕ → S1024x1.Idx → BitVec 32) : (n : ℕ) → n ≤ 20 → List (View.Piece (Elt F) S1024x20 .i32)
  | 0, _ => []
  | n + 1, h => ⟨Rect.unit (s := S1024x20) ![0, n] S1024x1.size (fun a => by
        fin_cases a
        · exact le_refl _
        · exact h), w n⟩ :: cols w n (Nat.le_of_succ_le h)

theorem cols_cons (w : ℕ → S1024x1.Idx → BitVec 32) (n : ℕ) (h : n + 1 ≤ 20) (inb : ∀ a, (![0, n] : Fin 2 → ℕ) a + (![1024, 1] : Fin 2 → ℕ) a ≤ S1024x20.size a)
    (x : S1024x1.Idx → BitVec 32) (L : List (View.Piece (Elt F) S1024x20 .i32)) (hx : x = w n) (hL : L = cols w n (Nat.le_of_succ_le h)) :
    (⟨Rect.unit (s := S1024x20) ![0, n] ![1024, 1] inb, x⟩ : View.Piece (Elt F) S1024x20 .i32) :: L = cols w (n + 1) h := by
  subst hx hL; rfl

/-- What the column stores leave: at column `j` the payload of store `j`. -/
theorem read_cols {sp : Space} (v : View sig .tc sp S1024x20 .i32) (f : v.ty.Contents (Elt F)) (w : ℕ → S1024x1.Idx → BitVec 32) :
    ∀ (n : ℕ) (h : n ≤ 20) (y : S1024x20.Idx), (y 1).val < n →
      v.read (Elt F) (v.writes (Elt F) f (cols w n h)) y = w (y 1).val (row1 ⟨(y 0).val, (y 0).isLt⟩)
  | 0, _, _, hy => absurd hy (Nat.not_lt_zero _)
  | n + 1, h, y, hy => by
    unfold cols
    by_cases hn : (y 1).val < n
    · exact (View.read_writes_cons_unit_of_not_mem v f (off := ![0, n]) (size := S1024x1.size) _ (w n) _ y rfl 1 (Or.inl hn)).trans
        (read_cols v f w n _ y hn)
    · have hn' : (y 1).val = n := by omega
      refine (View.read_writes_cons_unit_of_mem v f (off := ![0, n]) (size := S1024x1.size) _ (w n) _ y (row1 ⟨(y 0).val, (y 0).isLt⟩) rfl (fun a => ?_)).trans (by rw [hn'])
      fin_cases a
      · exact (Nat.zero_add _).symm
      · exact hn'

set_option maxHeartbeats 1000000 in
/-- The body at a grid point: the ten inputs kept, the positions and the predictions left in the two results, the
    attended table in the scratch. -/
theorem body_wp (d : Dev nD) (i : grid1.Coords) (a1 : Memref sig .tc .vmem S1024x200 .i32) (h1 : a1.IsWhole) (a2 : Memref sig .tc .vmem S1024x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x64 .f32) (h7 : a7.IsWhole) (a8 : Memref sig .tc .vmem S1x64 .f32) (h8 : a8.IsWhole) (a9 : Memref sig .tc .vmem S1x64 .f32) (h9 : a9.IsWhole) (a10 : Memref sig .tc .vmem S1x1 .f32) (h10 : a10.IsWhole) (a11 : Memref sig .tc .vmem S1024x20 .i32) (h11 : a11.IsWhole) (a12 : Memref sig .tc .vmem S1024x1 .f32) (h12 : a12.IsWhole) (a13 : Memref sig .tc .vmem S1024x128 .f32) (h13 : a13.IsWhole) (x1 : S1024x200.Idx → Elt F .i32) (x2 : S1024x128.Idx → Elt F .f32) (x3 : S128x128.Idx → Elt F .f32) (x4 : S1x128.Idx → Elt F .f32) (x5 : S128x128.Idx → Elt F .f32) (x6 : S1x128.Idx → Elt F .f32) (x7 : S128x64.Idx → Elt F .f32) (x8 : S1x64.Idx → Elt F .f32) (x9 : S1x64.Idx → Elt F .f32) (x10 : S1x1.Idx → Elt F .f32) (x13 : S1024x128.Idx → Elt F .f32) :
    iprop((owns (T d) a1 fullShare x1 : sProp 𝕄)
      ∗ owns (T d) a2 fullShare x2
      ∗ owns (T d) a3 fullShare x3
      ∗ owns (T d) a4 fullShare x4
      ∗ owns (T d) a5 fullShare x5
      ∗ owns (T d) a6 fullShare x6
      ∗ owns (T d) a7 fullShare x7
      ∗ owns (T d) a8 fullShare x8
      ∗ owns (T d) a9 fullShare x9
      ∗ owns (T d) a10 fullShare x10
      ∗ (∃ X, owns (T d) a11 fullShare X) ∗ (∃ X, owns (T d) a12 fullShare X) ∗ owns (T d) a13 fullShare x13)
      ⊢ wp frame (wpE (defs₀ (F := F)) 𝒱₀ (T d) none) Set.univ
          (cc1__topk_body (F := F) i a1 h1 a2 h2 a3 h3 a4 h4 a5 h5 a6 h6 a7 h7 a8 h8 a9 h9 a10 h10 a11 h11 a12 h12 a13 h13)
          fun _ => iprop((owns (T d) a1 fullShare x1 : sProp 𝕄)
      ∗ owns (T d) a2 fullShare x2
      ∗ owns (T d) a3 fullShare x3
      ∗ owns (T d) a4 fullShare x4
      ∗ owns (T d) a5 fullShare x5
      ∗ owns (T d) a6 fullShare x6
      ∗ owns (T d) a7 fullShare x7
      ∗ owns (T d) a8 fullShare x8
      ∗ owns (T d) a9 fullShare x9
      ∗ owns (T d) a10 fullShare x10
      ∗ owns (T d) a11 fullShare (topBlk (k1_pay3 x1)) ∗ owns (T d) a12 fullShare (predBlk (k1_pay3 x1) (attAt i x2 x3 x4 x5 x6 x13) x7 x8 x9 x10)
      ∗ owns (T d) a13 fullShare (attAt i x2 x3 x4 x5 x6 x13)) := by
  simp only [cc1__topk_body_eq_skeleton]
  unfold cc1__topk_body_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%x11, %f11, %e11, H11⟩, ⟨%x12, %f12, %e12, H12⟩, ⟨%f13, %e13, H13⟩⟩
  sl_exec
  sl_step
  isplitl [H1]
  · iexists f1
    isplitr
    · ipureintro; exact e1
    · iexact H1
  isplitl [H2]
  · iexists f2
    isplitr
    · ipureintro; exact e2
    · iexact H2
  isplitl [H3]
  · iexists f3
    isplitr
    · ipureintro; exact e3
    · iexact H3
  isplitl [H4]
  · iexists f4
    isplitr
    · ipureintro; exact e4
    · iexact H4
  isplitl [H5]
  · iexists f5
    isplitr
    · ipureintro; exact e5
    · iexact H5
  isplitl [H6]
  · iexists f6
    isplitr
    · ipureintro; exact e6
    · iexact H6
  isplitl [H7]
  · iexists f7
    isplitr
    · ipureintro; exact e7
    · iexact H7
  isplitl [H8]
  · iexists f8
    isplitr
    · ipureintro; exact e8
    · iexact H8
  isplitl [H9]
  · iexists f9
    isplitr
    · ipureintro; exact e9
    · iexact H9
  isplitl [H10]
  · iexists f10
    isplitr
    · ipureintro; exact e10
    · iexact H10
  have q1 := (View.readAt_full a1.view f1 inb_S1024x200_S1024x200_0_0).trans e1
  have q2 := (View.readAt_full a2.view f2 inb_S1024x128_S1024x128_0_0).trans e2
  have q3 := (View.readAt_full a3.view f3 inb_S128x128_S128x128_0_0).trans e3
  have q4 := (View.readAt_full a4.view f4 inb_S1x128_S1x128_0_0).trans e4
  have q5 := (View.readAt_full a5.view f5 inb_S128x128_S128x128_0_0).trans e5
  have q6 := (View.readAt_full a6.view f6 inb_S1x128_S1x128_0_0).trans e6
  have q7 := (View.readAt_full a7.view f7 inb_S128x64_S128x64_0_0).trans e7
  have q8 := (View.readAt_full a8.view f8 inb_S1x64_S1x64_0_0).trans e8
  have q9 := (View.readAt_full a9.view f9 inb_S1x64_S1x64_0_0).trans e9
  have q10 := (View.readAt_full a10.view f10 inb_S1x1_S1x1_0_0).trans e10
  have p13 : a13.view.read (Elt F) (if hc : Scalar.cmpi .ne (Scalar.extui (Scalar.cmpi .eq (BitVec.ofNat 32 (i 0).val) 0#32) : BitVec 32) 0#32 = 1#1 then
      a13.view.writes (Elt F) f13 [⟨Rect.unit (s := S1024x128) ![0, 0] ![1024, 128] inb_S1024x128_S1024x128_0_0,
        k1_pay2 (a2.view.readAt (Elt F) (Rect.unit (s := S1024x128) ![0, 0] ![1024, 128] inb_S1024x128_S1024x128_0_0).toLoadRect f2)
          (a3.view.readAt (Elt F) (Rect.unit (s := S128x128) ![0, 0] ![128, 128] inb_S128x128_S128x128_0_0).toLoadRect f3)
          (a4.view.readAt (Elt F) (Rect.unit (s := S1x128) ![0, 0] ![1, 128] inb_S1x128_S1x128_0_0).toLoadRect f4)
          (a5.view.readAt (Elt F) (Rect.unit (s := S128x128) ![0, 0] ![128, 128] inb_S128x128_S128x128_0_0).toLoadRect f5)
          (a6.view.readAt (Elt F) (Rect.unit (s := S1x128) ![0, 0] ![1, 128] inb_S1x128_S1x128_0_0).toLoadRect f6)⟩] else f13) = attAt i x2 x3 x4 x5 x6 x13 := by
    unfold attAt
    split
    · exact (View.read_writes_full a13.view f13 inb_S1024x128_S1024x128_0_0 _ _).trans (by rw [q2, q3, q4, q5, q6])
    · exact e13
  have q13 : body_wp.sl.v416 d i a2 a3 a4 a5 a6 a13 f2 f3 f4 f5 f6 f13 = attAt i x2 x3 x4 x5 x6 x13 := by
    unfold body_wp.sl.v416
    exact (View.readAt_full a13.view _ inb_S1024x128_S1024x128_0_0).trans p13
  have r0 : body_wp.sl.r d a1 f1 = cnts (k1_pay3 x1) 1 := by
    unfold body_wp.sl.r
    exact (congrArg k1_pay7 q1).trans (cnt7 x1)
  have r1 : body_wp.sl.r_1 d a1 f1 = keys (k1_pay3 x1) 1 := by
    unfold body_wp.sl.r_1
    exact (congrArg k1_pay8 q1).trans (nxt8 x1)
  simp only [r0, r1, Nat.reduceAdd, out73, out6, cnt7, nxt8, out10, out13, nxt15, cnt14, out17, out20, nxt22, cnt21, out24, out27, nxt29, cnt28, out31, out34, nxt36, cnt35, out38, out41, nxt43, cnt42, out45, out48, nxt50, cnt49, out52, out55, nxt57, cnt56, out59, out62, nxt64, cnt63, out66, out69, nxt71, cnt70]
  isplitl [H11]
  · iexists _; isplitr
    rotate_left
    · iexact H11
    · ipureintro
      refine (congrArg (fun L => a11.view.read (Elt F) (a11.view.writes (Elt F) f11 L)) (a₂ := cols (fun j => kout (keys (k1_pay3 x1) j)) 20 (le_refl _)) ?_).trans (funext fun y => read_cols a11.view f11 _ 20 (le_refl _) y (y 1).isLt)
      refine cols_cons _ 19 _ _ _ _ rfl ?_
      refine cols_cons _ 18 _ _ _ _ rfl ?_
      refine cols_cons _ 17 _ _ _ _ rfl ?_
      refine cols_cons _ 16 _ _ _ _ rfl ?_
      refine cols_cons _ 15 _ _ _ _ rfl ?_
      refine cols_cons _ 14 _ _ _ _ rfl ?_
      refine cols_cons _ 13 _ _ _ _ rfl ?_
      refine cols_cons _ 12 _ _ _ _ rfl ?_
      refine cols_cons _ 11 _ _ _ _ rfl ?_
      refine cols_cons _ 10 _ _ _ _ rfl ?_
      refine cols_cons _ 9 _ _ _ _ rfl ?_
      refine cols_cons _ 8 _ _ _ _ rfl ?_
      refine cols_cons _ 7 _ _ _ _ rfl ?_
      refine cols_cons _ 6 _ _ _ _ rfl ?_
      refine cols_cons _ 5 _ _ _ _ rfl ?_
      refine cols_cons _ 4 _ _ _ _ rfl ?_
      refine cols_cons _ 3 _ _ _ _ rfl ?_
      refine cols_cons _ 2 _ _ _ _ rfl ?_
      refine cols_cons _ 1 _ _ _ _ rfl ?_
      refine cols_cons _ 0 _ _ _ _ ((congrArg k1_pay6 q1).trans (out6 x1)) ?_
      rfl
  isplitl [H12]
  · iexists _; isplitr
    rotate_left
    · iexact H12
    · ipureintro
      refine (View.read_writes_full a12.view f12 inb_S1024x1_S1024x1_0_0 _ _).trans ?_
      rw [q7, q8, q9, q10, q13]
      exact congrArg (fun l => k1_pay1 l x10) (last74 _ 19 _ _ _ _)
  iexists _; isplitr
  rotate_left
  · iexact H13
  · ipureintro
    exact p13

end

end Cert.Proof.Run

end
-- ==== Proof.Tc.lean ====
/-
  The TensorCore call's region: what its windows' buffers hold at every grid point, the body's obligation there, and the
  region as a step of @main that leaves the position array and the prediction column at pure functions of its inputs.
-/
module

public import proofs.«01_k».proof.Proof.Topk
public import Idealize.ShloMosaic.Lib.Pipeline.RegionArrays
public import Idealize.ShloMosaic.Lib.Pipeline.ValueKit.Geometry

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {F : FTy → Type} [FloatOps F] [Named F]

local notation "𝕄" => MM F

variable (V : Dev nD → Valuation τ sig (Elt F))

/-- What window `w`'s fetch at point `t` reads of the arrays' contents `V`. -/
def blkAt (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The attended table, as the first point computes it. -/
def att0 (c : Dev nD) : FVec F S1024x128 .f32 :=
  k1_pay2 (blkAt V c 1 t1_0) (blkAt V c 2 t1_0) (blkAt V c 3 t1_0) (blkAt V c 4 t1_0) (blkAt V c 5 t1_0)

/-- The proof data: every input's buffer at its block, the two results at the body's values, the scratch at the
    attended table from the first point on, and nothing owed. -/
def dats (_ : Fin 1) (c : Dev nD) : Dat τ (Elt F) (HIx 1) ℕ UU ℕ cfg1 c where
  A w := V c (Proc.devRef .tc (Pipeline.arrRef spec1 w))
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => blkAt V c 9 t
    | ⟨10, _⟩ => topBlk (k1_pay3 (blkAt V c 0 t))
    | ⟨11, _⟩ => predBlk (k1_pay3 (blkAt V c 0 t)) (att0 V c) (blkAt V c 6 t) (blkAt V c 7 t) (blkAt V c 8 t) (blkAt V c 9 t)
  Φ t := iprop(∃ X : FVec F S1024x128 .f32, ⌜t.val ≠ 0 → X = att0 V c⌝ ∗ owns (T c) (Memref.whole cc1_scratch0) fullShare X)
  q _ := fullShare
  owed _ := 0
  recorded _ := {p | (K (F := F)).lev (T c, p.1) p.2 ≤ 8 * 1}

theorem A_eq (c : Dev nD) (w : Fin cfg1.W) : (dats V 0 c).A w = V c (Proc.devRef .tc (Pipeline.arrRef spec1 w)) := by
  dsimp only [dats]

theorem after_0 (c : Dev nD) (t : Fin cfg1.N) : (dats V 0 c).after 0 t = blkAt V c 0 t := by dsimp only [dats]
theorem after_1 (c : Dev nD) (t : Fin cfg1.N) : (dats V 0 c).after 1 t = blkAt V c 1 t := by dsimp only [dats]
theorem after_2 (c : Dev nD) (t : Fin cfg1.N) : (dats V 0 c).after 2 t = blkAt V c 2 t := by dsimp only [dats]
theorem after_3 (c : Dev nD) (t : Fin cfg1.N) : (dats V 0 c).after 3 t = blkAt V c 3 t := by dsimp only [dats]
theorem after_4 (c : Dev nD) (t : Fin cfg1.N) : (dats V 0 c).after 4 t = blkAt V c 4 t := by dsimp only [dats]
theorem after_5 (c : Dev nD) (t : Fin cfg1.N) : (dats V 0 c).after 5 t = blkAt V c 5 t := by dsimp only [dats]
theorem after_6 (c : Dev nD) (t : Fin cfg1.N) : (dats V 0 c).after 6 t = blkAt V c 6 t := by dsimp only [dats]
theorem after_7 (c : Dev nD) (t : Fin cfg1.N) : (dats V 0 c).after 7 t = blkAt V c 7 t := by dsimp only [dats]
theorem after_8 (c : Dev nD) (t : Fin cfg1.N) : (dats V 0 c).after 8 t = blkAt V c 8 t := by dsimp only [dats]
theorem after_9 (c : Dev nD) (t : Fin cfg1.N) : (dats V 0 c).after 9 t = blkAt V c 9 t := by dsimp only [dats]
theorem after_10 (c : Dev nD) (t : Fin cfg1.N) : (dats V 0 c).after 10 t = topBlk (k1_pay3 (blkAt V c 0 t)) := by dsimp only [dats]
theorem after_11 (c : Dev nD) (t : Fin cfg1.N) : (dats V 0 c).after 11 t
    = predBlk (k1_pay3 (blkAt V c 0 t)) (att0 V c) (blkAt V c 6 t) (blkAt V c 7 t) (blkAt V c 8 t) (blkAt V c 9 t) := by dsimp only [dats]

/-- An input window's buffer holds its block at every point. -/
theorem before_of (c : Dev nD) (w : Fin cfg1.W) (hw : (cfg1.win w).isOut = false)
    (hx : ∀ t t' : Fin cfg1.N, (cfg1.win w).index t = (cfg1.win w).index t' → (cfg1.win w).clip (cfg1.grid.coords t) = (cfg1.win w).clip (cfg1.grid.coords t'))
    (hk : ∀ t, (cfg1.win w).cut (cfg1.grid.coords t) ((dats V 0 c).after w t) = blkAt V c w t) (t : Fin cfg1.N) (d) :
    (dats V 0 c).before w t d = (dats V 0 c).fetched w t d :=
  (dats V 0 c).before_in_eq_fetched w hw (fun _ => rfl) hx (fun t => (hk t).trans (by unfold blkAt Dat.blockOf; rw [A_eq])) t d

theorem before_0 (c : Dev nD) (t : Fin cfg1.N) (d) : (dats V 0 c).before 0 t d = blkAt V c 0 t :=
  (before_of V c 0 rfl (fun _ _ _ => rfl) (fun t => by rw [after_0]) t d).trans (by unfold blkAt Dat.fetched Dat.blockOf; rw [A_eq]; rfl)
theorem before_1 (c : Dev nD) (t : Fin cfg1.N) (d) : (dats V 0 c).before 1 t d = blkAt V c 1 t :=
  (before_of V c 1 rfl (fun _ _ _ => rfl) (fun t => by rw [after_1]) t d).trans (by unfold blkAt Dat.fetched Dat.blockOf; rw [A_eq]; rfl)
theorem before_2 (c : Dev nD) (t : Fin cfg1.N) (d) : (dats V 0 c).before 2 t d = blkAt V c 2 t :=
  (before_of V c 2 rfl (fun _ _ _ => rfl) (fun t => by rw [after_2]) t d).trans (by unfold blkAt Dat.fetched Dat.blockOf; rw [A_eq]; rfl)
theorem before_3 (c : Dev nD) (t : Fin cfg1.N) (d) : (dats V 0 c).before 3 t d = blkAt V c 3 t :=
  (before_of V c 3 rfl (fun _ _ _ => rfl) (fun t => by rw [after_3]) t d).trans (by unfold blkAt Dat.fetched Dat.blockOf; rw [A_eq]; rfl)
theorem before_4 (c : Dev nD) (t : Fin cfg1.N) (d) : (dats V 0 c).before 4 t d = blkAt V c 4 t :=
  (before_of V c 4 rfl (fun _ _ _ => rfl) (fun t => by rw [after_4]) t d).trans (by unfold blkAt Dat.fetched Dat.blockOf; rw [A_eq]; rfl)
theorem before_5 (c : Dev nD) (t : Fin cfg1.N) (d) : (dats V 0 c).before 5 t d = blkAt V c 5 t :=
  (before_of V c 5 rfl (fun _ _ _ => rfl) (fun t => by rw [after_5]) t d).trans (by unfold blkAt Dat.fetched Dat.blockOf; rw [A_eq]; rfl)
theorem before_6 (c : Dev nD) (t : Fin cfg1.N) (d) : (dats V 0 c).before 6 t d = blkAt V c 6 t :=
  (before_of V c 6 rfl (fun _ _ _ => rfl) (fun t => by rw [after_6]) t d).trans (by unfold blkAt Dat.fetched Dat.blockOf; rw [A_eq]; rfl)
theorem before_7 (c : Dev nD) (t : Fin cfg1.N) (d) : (dats V 0 c).before 7 t d = blkAt V c 7 t :=
  (before_of V c 7 rfl (fun _ _ _ => rfl) (fun t => by rw [after_7]) t d).trans (by unfold blkAt Dat.fetched Dat.blockOf; rw [A_eq]; rfl)
theorem before_8 (c : Dev nD) (t : Fin cfg1.N) (d) : (dats V 0 c).before 8 t d = blkAt V c 8 t :=
  (before_of V c 8 rfl (fun _ _ _ => rfl) (fun t => by rw [after_8]) t d).trans (by unfold blkAt Dat.fetched Dat.blockOf; rw [A_eq]; rfl)
theorem before_9 (c : Dev nD) (t : Fin cfg1.N) (d) : (dats V 0 c).before 9 t d = blkAt V c 9 t :=
  (before_of V c 9 rfl (fun _ _ _ => rfl) (fun t => by rw [after_9]) t d).trans (by unfold blkAt Dat.fetched Dat.blockOf; rw [A_eq]; rfl)

/-! ## The body at a point -/

/-- After the body, at any point, the scratch holds the attended table. -/
theorem att_step (c : Dev nD) (t : Fin cfg1.N) (X : FVec F S1024x128 .f32) (hX : t.val ≠ 0 → X = att0 V c) :
    attAt (grid1.coords t) (blkAt V c 1 t) (blkAt V c 2 t) (blkAt V c 3 t) (blkAt V c 4 t) (blkAt V c 5 t) X = att0 V c := by
  unfold attAt
  rcases fin_N1 t with rfl | rfl | rfl | rfl
  · rw [if_pos (by decide +kernel)]; rfl
  all_goals rw [if_neg (by decide +kernel)]; exact hX (by decide +kernel)

/-- What the body is called with at point `t`, -/
def bodyPre (c : Dev nD) (t : Fin cfg1.N) : sProp 𝕄 :=
  iprop((dats V 0 c).Φ t.castSucc ∗ (dats V 0 c).owesAt none t.castSucc
    ∗ (∃ d, owns (T c) (st1_0 t) fullShare ((dats V 0 c).before 0 t d))
    ∗ (∃ d, owns (T c) (st1_1 t) fullShare ((dats V 0 c).before 1 t d))
    ∗ (∃ d, owns (T c) (st1_2 t) fullShare ((dats V 0 c).before 2 t d))
    ∗ (∃ d, owns (T c) (st1_3 t) fullShare ((dats V 0 c).before 3 t d))
    ∗ (∃ d, owns (T c) (st1_4 t) fullShare ((dats V 0 c).before 4 t d))
    ∗ (∃ d, owns (T c) (st1_5 t) fullShare ((dats V 0 c).before 5 t d))
    ∗ (∃ d, owns (T c) (st1_6 t) fullShare ((dats V 0 c).before 6 t d))
    ∗ (∃ d, owns (T c) (st1_7 t) fullShare ((dats V 0 c).before 7 t d))
    ∗ (∃ d, owns (T c) (st1_8 t) fullShare ((dats V 0 c).before 8 t d))
    ∗ (∃ d, owns (T c) (st1_9 t) fullShare ((dats V 0 c).before 9 t d))
    ∗ (∃ d, owns (T c) (st1_10 t) fullShare ((dats V 0 c).before 10 t d))
    ∗ (∃ d, owns (T c) (st1_11 t) fullShare ((dats V 0 c).before 11 t d)))

/-- and what it returns. -/
def bodyPost (c : Dev nD) (t : Fin cfg1.N) : sProp 𝕄 :=
  iprop((dats V 0 c).Φ t.succ ∗ (dats V 0 c).owesAt none t.succ
    ∗ owns (T c) (st1_0 t) fullShare ((dats V 0 c).after 0 t)
    ∗ owns (T c) (st1_1 t) fullShare ((dats V 0 c).after 1 t)
    ∗ owns (T c) (st1_2 t) fullShare ((dats V 0 c).after 2 t)
    ∗ owns (T c) (st1_3 t) fullShare ((dats V 0 c).after 3 t)
    ∗ owns (T c) (st1_4 t) fullShare ((dats V 0 c).after 4 t)
    ∗ owns (T c) (st1_5 t) fullShare ((dats V 0 c).after 5 t)
    ∗ owns (T c) (st1_6 t) fullShare ((dats V 0 c).after 6 t)
    ∗ owns (T c) (st1_7 t) fullShare ((dats V 0 c).after 7 t)
    ∗ owns (T c) (st1_8 t) fullShare ((dats V 0 c).after 8 t)
    ∗ owns (T c) (st1_9 t) fullShare ((dats V 0 c).after 9 t)
    ∗ owns (T c) (st1_10 t) fullShare ((dats V 0 c).after 10 t)
    ∗ owns (T c) (st1_11 t) fullShare ((dats V 0 c).after 11 t))

theorem Φ_eq (c : Dev nD) (t : Fin (cfg1.N + 1)) : (dats V 0 c).Φ t
    = iprop(∃ X : FVec F S1024x128 .f32, ⌜t.val ≠ 0 → X = att0 V c⌝ ∗ owns (T c) (Memref.whole cc1_scratch0) fullShare X) := by dsimp only [dats]

theorem sound_body (c : Dev nD) (t : Fin cfg1.N) :
    bodyPre V c t ⊢ wp frame (wpE (defs₀ (F := F)) 𝒱₀ (T c) none) Set.univ (bodyAt1 t) (fun _ => bodyPost V c t) := by
  unfold bodyPre bodyPost bodyAt1
  simp only [before_0, before_1, before_2, before_3, before_4, before_5, before_6, before_7, before_8, before_9, after_0, after_1, after_2, after_3, after_4, after_5, after_6, after_7, after_8, after_9, after_10, after_11]
  rw [show (dats V 0 c).owesAt none t.succ = (dats V 0 c).owesAt none t.castSucc from rfl, Φ_eq, Φ_eq]
  iintro ⟨⟨%X, %hX, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hb := body_wp c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11))
    (Memref.whole cc1_scratch0) (Memref.isWhole_whole _) (blkAt V c 0 t) (blkAt V c 1 t) (blkAt V c 2 t) (blkAt V c 3 t) (blkAt V c 4 t) (blkAt V c 5 t) (blkAt V c 6 t) (blkAt V c 7 t) (blkAt V c 8 t) (blkAt V c 9 t) X
  rw [att_step V c t X hX] at hb
  iapply (wp_wand_r frame _ _)
  isplitr [Ho]
  · iapply hb
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexists _
      iexact H10
    isplitl [H11]
    · iexists _
      iexact H11
    iexact HS
  iintro %_ ⟨H0, H1, H2, H3, H4, H5, H6, H7, H8, H9, H10, H11, HS⟩
  isplitl [HS]
  · iexists _
    isplitr
    · ipureintro
      exact fun _ => rfl
    iexact HS
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

/-- The body table's row at point `t`'s slots. -/
theorem defs₀_row (t : Fin cfg1.N) : defs₀ (F := F) .tc cfg1.body (cfg1.bodyArgs t (cfg1.slots t)) = bodyAt1 t := rfl

theorem body_obligation (c : Dev nD) : BodyObligation (dats V 0 c) (defs₀ (F := F)) 𝒱₀ none Set.univ := fun t => by
  rw [bigSep_W1, bigSep_W1, defs₀_row]
  exact triple_restated (sound_body V c t) rfl .rfl fun _ => .rfl

/-! ## The two results -/

/-- The point and the row in its block of row `n` of the batch. -/
def ptOf (n : Fin 4096) : Fin cfg1.N := ⟨n.val / 1024, lt_of_lt_of_eq (b := 4) (by omega) N_1.symm⟩
def rowOf (n : Fin 4096) : Fin 1024 := ⟨n.val % 1024, Nat.mod_lt _ (by decide)⟩

/-- The positions of the twenty best, row by row, -/
def res10 (c : Dev nD) : Buf (Elt F) ((T c : Thread nD τ).loc main_v44_0) := fun (y : S4096x20.Idx) =>
  topBlk (k1_pay3 (blkAt V c 0 (ptOf (y 0)))) (fun | 0 => rowOf (y 0) | 1 => y 1)
/-- and the prediction. -/
def res11 (c : Dev nD) : Buf (Elt F) ((T c : Thread nD τ).loc main_v44_1) := fun (y : S4096x1.Idx) =>
  predBlk (k1_pay3 (blkAt V c 0 (ptOf (y 0)))) (att0 V c) (blkAt V c 6 (ptOf (y 0))) (blkAt V c 7 (ptOf (y 0)))
    (blkAt V c 8 (ptOf (y 0))) (blkAt V c 9 (ptOf (y 0))) (row1 (rowOf (y 0)))

theorem index_0 (t : Fin cfg1.N) : win1_0.index t 0 = t.val ∧ win1_0.index t 1 = 0 := by
  rcases fin_N1 t with rfl | rfl | rfl | rfl <;> decide +kernel
theorem index_10 (t : Fin cfg1.N) : win1_10.index t 0 = t.val ∧ win1_10.index t 1 = 0 := by
  rcases fin_N1 t with rfl | rfl | rfl | rfl <;> decide +kernel
theorem index_11 (t : Fin cfg1.N) : win1_11.index t 0 = t.val ∧ win1_11.index t 1 = 0 := by
  rcases fin_N1 t with rfl | rfl | rfl | rfl <;> decide +kernel

theorem coords_val (t : Fin cfg1.N) : (grid1.coords t 0).val = t.val := by
  rcases fin_N1 t with rfl | rfl | rfl | rfl <;> decide +kernel

theorem arrAt_10 (c : Dev nD) : (dats V 0 c).arrAt 10 cfg1.N = res10 V c := by
  refine (dats V 0 c).arrAt_eq_of_covers 10 (res10 V c) (by decide +kernel) fun t hf y => ?_
  blk_simp
  rw [after_10]
  have e0 : (((win1_10.blk t).view.emb y 0 : Fin 4096) : ℕ) = t.val * 1024 + (y 0).val := by
    blk_simp [index_10]
  have y0 : (y 0).val < 1024 := (y 0).isLt
  have hp : ptOf ((win1_10.blk t).view.emb y 0) = t := Fin.ext (by show _ / 1024 = _; rw [e0]; omega)
  have hr : rowOf ((win1_10.blk t).view.emb y 0) = y 0 := Fin.ext (by show _ % 1024 = _; rw [e0]; omega)
  have e1 : ((win1_10.blk t).view.emb y 1 : Fin 20) = y 1 := Fin.ext (by blk_simp [index_10])
  unfold res10
  dsimp only
  rw [hp, hr]
  rw [e1]
  exact congrArg _ (funext fun a => by fin_cases a <;> rfl)

theorem arrAt_11 (c : Dev nD) : (dats V 0 c).arrAt 11 cfg1.N = res11 V c := by
  refine (dats V 0 c).arrAt_eq_of_covers 11 (res11 V c) (by decide +kernel) fun t hf y => ?_
  blk_simp
  rw [after_11]
  have e0 : (((win1_11.blk t).view.emb y 0 : Fin 4096) : ℕ) = t.val * 1024 + (y 0).val := by
    blk_simp [index_11]
  have y0 : (y 0).val < 1024 := (y 0).isLt
  have hp : ptOf ((win1_11.blk t).view.emb y 0) = t := Fin.ext (by show _ / 1024 = _; rw [e0]; omega)
  have hr : rowOf ((win1_11.blk t).view.emb y 0) = y 0 := Fin.ext (by show _ % 1024 = _; rw [e0]; omega)
  unfold res11
  dsimp only
  rw [hp, hr]
  refine congrArg _ (funext fun a => ?_)
  fin_cases a
  · rfl
  · exact Fin.ext (by have h1 : (y 1).val < 1 := (y 1).isLt; show (y 1).val = 0; omega)

theorem blkAt_0 (c : Dev nD) (t : Fin cfg1.N) (y : S1024x200.Idx) : blkAt V c 0 t y
    = (V c (Proc.devRef .tc main_v38) : S4096x200.Idx → BitVec 32) (fun | 0 => ⟨1024 * t.val + (y 0).val, by have := t.isLt; have h0 : (y 0).val < 1024 := (y 0).isLt; have : t.val < 4 := lt_of_lt_of_eq t.isLt N_1; show _ < 4096; omega⟩ | 1 => y 1) := by
  unfold blkAt
  blk_simp
  refine congrArg _ (funext fun a => Fin.ext ?_)
  fin_cases a <;> blk_simp [index_0]
  · show t.val * 1024 + (y 0).val = 1024 * t.val + (y 0).val
    omega
  · rfl

theorem index_1 (t : Fin cfg1.N) : win1_1.index t 0 = 0 ∧ win1_1.index t 1 = 0 := by
  rcases fin_N1 t with rfl | rfl | rfl | rfl <;> decide +kernel
theorem blkAt_1 (c : Dev nD) (t : Fin cfg1.N) : blkAt V c 1 t = (V c (Proc.devRef .tc main_v37) : S1024x128.Idx → F .f32) := by
  funext y
  unfold blkAt
  blk_simp
  refine congrArg _ (funext fun a => Fin.ext ?_)
  fin_cases a <;> blk_simp [index_1] <;> rfl

theorem index_2 (t : Fin cfg1.N) : win1_2.index t 0 = 0 ∧ win1_2.index t 1 = 0 := by
  rcases fin_N1 t with rfl | rfl | rfl | rfl <;> decide +kernel
theorem blkAt_2 (c : Dev nD) (t : Fin cfg1.N) : blkAt V c 2 t = (V c (Proc.devRef .tc main_arg8) : S128x128.Idx → F .f32) := by
  funext y
  unfold blkAt
  blk_simp
  refine congrArg _ (funext fun a => Fin.ext ?_)
  fin_cases a <;> blk_simp [index_2] <;> rfl

theorem index_3 (t : Fin cfg1.N) : win1_3.index t 0 = 0 ∧ win1_3.index t 1 = 0 := by
  rcases fin_N1 t with rfl | rfl | rfl | rfl <;> decide +kernel
theorem blkAt_3 (c : Dev nD) (t : Fin cfg1.N) : blkAt V c 3 t = (V c (Proc.devRef .tc main_v39) : S1x128.Idx → F .f32) := by
  funext y
  unfold blkAt
  blk_simp
  refine congrArg _ (funext fun a => Fin.ext ?_)
  fin_cases a <;> blk_simp [index_3] <;> rfl

theorem index_4 (t : Fin cfg1.N) : win1_4.index t 0 = 0 ∧ win1_4.index t 1 = 0 := by
  rcases fin_N1 t with rfl | rfl | rfl | rfl <;> decide +kernel
theorem blkAt_4 (c : Dev nD) (t : Fin cfg1.N) : blkAt V c 4 t = (V c (Proc.devRef .tc main_arg10) : S128x128.Idx → F .f32) := by
  funext y
  unfold blkAt
  blk_simp
  refine congrArg _ (funext fun a => Fin.ext ?_)
  fin_cases a <;> blk_simp [index_4] <;> rfl

theorem index_5 (t : Fin cfg1.N) : win1_5.index t 0 = 0 ∧ win1_5.index t 1 = 0 := by
  rcases fin_N1 t with rfl | rfl | rfl | rfl <;> decide +kernel
theorem blkAt_5 (c : Dev nD) (t : Fin cfg1.N) : blkAt V c 5 t = (V c (Proc.devRef .tc main_v40) : S1x128.Idx → F .f32) := by
  funext y
  unfold blkAt
  blk_simp
  refine congrArg _ (funext fun a => Fin.ext ?_)
  fin_cases a <;> blk_simp [index_5] <;> rfl

theorem index_6 (t : Fin cfg1.N) : win1_6.index t 0 = 0 ∧ win1_6.index t 1 = 0 := by
  rcases fin_N1 t with rfl | rfl | rfl | rfl <;> decide +kernel
theorem blkAt_6 (c : Dev nD) (t : Fin cfg1.N) : blkAt V c 6 t = (V c (Proc.devRef .tc main_arg12) : S128x64.Idx → F .f32) := by
  funext y
  unfold blkAt
  blk_simp
  refine congrArg _ (funext fun a => Fin.ext ?_)
  fin_cases a <;> blk_simp [index_6] <;> rfl

theorem index_7 (t : Fin cfg1.N) : win1_7.index t 0 = 0 ∧ win1_7.index t 1 = 0 := by
  rcases fin_N1 t with rfl | rfl | rfl | rfl <;> decide +kernel
theorem blkAt_7 (c : Dev nD) (t : Fin cfg1.N) : blkAt V c 7 t = (V c (Proc.devRef .tc main_v41) : S1x64.Idx → F .f32) := by
  funext y
  unfold blkAt
  blk_simp
  refine congrArg _ (funext fun a => Fin.ext ?_)
  fin_cases a <;> blk_simp [index_7] <;> rfl

theorem index_8 (t : Fin cfg1.N) : win1_8.index t 0 = 0 ∧ win1_8.index t 1 = 0 := by
  rcases fin_N1 t with rfl | rfl | rfl | rfl <;> decide +kernel
theorem blkAt_8 (c : Dev nD) (t : Fin cfg1.N) : blkAt V c 8 t = (V c (Proc.devRef .tc main_v42) : S1x64.Idx → F .f32) := by
  funext y
  unfold blkAt
  blk_simp
  refine congrArg _ (funext fun a => Fin.ext ?_)
  fin_cases a <;> blk_simp [index_8] <;> rfl

theorem index_9 (t : Fin cfg1.N) : win1_9.index t 0 = 0 ∧ win1_9.index t 1 = 0 := by
  rcases fin_N1 t with rfl | rfl | rfl | rfl <;> decide +kernel
theorem blkAt_9 (c : Dev nD) (t : Fin cfg1.N) : blkAt V c 9 t = (V c (Proc.devRef .tc main_v43) : S1x1.Idx → F .f32) := by
  funext y
  unfold blkAt
  blk_simp
  refine congrArg _ (funext fun a => Fin.ext ?_)
  fin_cases a <;> blk_simp [index_9] <;> rfl

/-! ## The region -/

/-- The arrays after the region. -/
def Vend (c : Dev nD) : Valuation τ sig (Elt F) :=
  Function.update (Function.update (V c) (Proc.devRef .tc main_v44_0) (res10 V c)) (Proc.devRef .tc main_v44_1) (res11 V c)

theorem Vend_0 (c : Dev nD) : Vend V c (Proc.devRef .tc main_v44_0) = res10 V c := by
  unfold Vend
  rw [Function.update_of_ne (by decide), Function.update_self]
theorem Vend_1 (c : Dev nD) : Vend V c (Proc.devRef .tc main_v44_1) = res11 V c := by
  unfold Vend
  rw [Function.update_self]
theorem Vend_of_ne (c : Dev nD) (b : DevRef τ sig) (h0 : b ≠ Proc.devRef .tc main_v44_0) (h1 : b ≠ Proc.devRef .tc main_v44_1) : Vend V c b = V c b := by
  unfold Vend
  rw [Function.update_of_ne h1, Function.update_of_ne h0]

theorem arrAt_end (c : Dev nD) (w : Fin cfg1.W) : (dats V 0 c).arrAt w cfg1.N = Vend V c (Proc.devRef .tc (arrRef spec1 w)) := by
  have hin : ∀ w : Fin cfg1.W, (cfg1.win w).isOut = false → Proc.devRef (τ := τ) (sig := sig) .tc (arrRef spec1 w) ≠ Proc.devRef .tc main_v44_0 →
      Proc.devRef (τ := τ) (sig := sig) .tc (arrRef spec1 w) ≠ Proc.devRef .tc main_v44_1 →
      (dats V 0 c).arrAt w cfg1.N = Vend V c (Proc.devRef .tc (arrRef spec1 w)) := fun w hw h0 h1 => by
    rw [(dats V 0 c).arrAt_in w hw, A_eq, Vend_of_ne V c _ h0 h1]
  fin_cases w
  case «10» =>
    exact (arrAt_10 V c).trans (Vend_0 V c).symm
  case «11» =>
    exact (arrAt_11 V c).trans (Vend_1 V c).symm
  all_goals exact hin _ rfl (by decide) (by decide)

/-- What the thread owes around the region: nothing, its recorded waits all of the call's stage or below. -/
def idle (c : Dev nD) : sProp 𝕄 := iprop(∃ W, ⌜(K (F := F)).WBelow (T c) W (8 * 1)⌝ ∗ owes (T c) 0 W)

theorem scratch_in (c : Dev nD) (t : Fin (cfg1.N + 1)) (ht : t.val = 0) : (scopedRest spec1 c : sProp 𝕄) ⊢ (dats V 0 c).Φ t := by
  rw [Φ_eq, scopedRest1_eq]
  simp only [owns_whole]
  iintro ⟨%f, H⟩
  iexists f
  isplitr
  · ipureintro
    exact fun h => absurd ht h
  iexact H

theorem scratch_out (c : Dev nD) (t : Fin (cfg1.N + 1)) : (dats V 0 c).Φ t ⊢ (scopedRest spec1 c : sProp 𝕄) := by
  rw [Φ_eq, scopedRest1_eq]
  simp only [owns_whole]
  iintro ⟨%f, -, H⟩
  iexists f
  iexact H

/-- The pipeline's layout facts. -/
theorem kit : PLaunchFacts (nD := nD) (τ := τ) (pcfgs (F := F)) 0 := launch1.toP

/-- The region: entered from its arrays at `V`, left with them at `Vend V`. -/
def region : RegionSeg (pcfgs (F := F)) (fun p => (cfgs p).toPCfg_adm) (dats V) (none : HIx 1) (defs₀ (F := F)) 𝒱₀ (K (F := F)).L (K (F := F)).lev 0 where
  win := (kit (F := F)).to₀.win
  block_pos := (kit (F := F)).to₀.block_pos
  stage_whole := (kit (F := F)).to₀.stage_whole
  K := PEmpty
  osem k := k.elim
  ho := OwnSemFacts.none _
  hbody c := (body_obligation V c).loose
  hwaits c := by
    refine (show _ ⊢ (BI.emp : sProp 𝕄) from ?_).trans (cellsWaits_of_owed_zero _ _ _ _ c fun _ => rfl)
    iintro -
    iempintro
  pre c := iprop(StableHlo.held (c.tc : Thread nD τ) (arrRefs spec1) (V c) ∗ idle c)
  post c := iprop(StableHlo.held (c.tc : Thread nD τ) (arrRefs spec1) (Vend V c) ∗ idle c)
  X _ := iprop(emp)
  Y _ := iprop(emp)
  Z _ := iprop(emp)
  hentry c := by
    rw [ownSems0_none, prefHeld_of_none _ rfl,
      arrays_held pcfgs (fun p => (cfgs p).toPCfg_adm) (dats V) 0 kit c ((dats V 0 c).share_full fun _ => rfl) ((dats V 0 c).arrAt · 0) (V c) (fun w => A_eq V c w)]
    unfold idle
    iintro ⟨⟨Ha, %W, %hW, HO⟩, -, -⟩
    imodintro
    isplitl [Ha]
    · iexact Ha
    isplitr
    · iempintro
    isplitl [HO]
    · unfold Dat.owesAt owesWithin Dat.bound
      iexists W
      isplitr
      · ipureintro
        exact fun p hp => Or.inl (hW p hp)
      iexact HO
    isplitr
    · iempintro
    iempintro
  hin c := by
    refine (show _ ⊢ (scopedRest spec1 c : sProp 𝕄) from ?_).trans (scratch_in V c 0 rfl)
    iintro ⟨-, -, H⟩
    iexact H
  hout c := by
    refine (scratch_out V c _).trans (show _ ⊢ _ from ?_)
    rw [ownSems0_none]
    iintro H
    isplitr
    · iempintro
    isplitr
    · iempintro
    iexact H
  hexit c := by
    rw [arrays_held pcfgs (fun p => (cfgs p).toPCfg_adm) (dats V) 0 kit c ((dats V 0 c).share_full fun _ => rfl) ((dats V 0 c).arrAt · cfg1.N) (Vend V c) (fun w => arrAt_end V c w)]
    unfold idle Dat.owesAt owesWithin Dat.bound
    iintro ⟨Ha, ⟨%W, %hW, HO⟩, -, -⟩
    imodintro
    isplitl [Ha]
    · iexact Ha
    iexists W
    isplitr
    · ipureintro
      intro p hp
      rcases hW hp with h | ⟨w, s, rfl⟩
      · exact h
      · exact Nat.zero_le _
    iexact HO

end Cert.Proof.Run

end
-- ==== Proof.Host.lean ====
/-
  The host operations of @main around its two custom calls, as three lists in order, and @main as their chain.
-/
module

public import proofs.«01_k».proof.Proof.Launch
public import Idealize.ShloMosaic.Lib.StableHlo.Run

@[expose] public section

noncomputable section

namespace Cert.Proof.Run

open Cert.KernelIdeal Cert.KernelIdeal.Gen
open Idealize.ShloMosaic Idealize.ShloMosaic.TcCoe Idealize.SL.Sem Idealize.ShloMosaic.StableHlo

variable {F : FTy → Type} [FloatOps F] [Named F]

/-- The operations before the SparseCore call: the score table, the ranks, the two padded tables, the flattened ids. -/
abbrev ops1 : List (HloOp τ sig (Elt F)) :=
  [ binary main_arg1 main_arg2 main_v0 ((fun l r => Host.dotGeneral dot_S1000x128_S128x64_S1000x64_1_0_0_1_n_n none l r) : (⟨S1000x128, .f32⟩ : BufTy).Contents (Elt F) → (⟨S128x64, .f32⟩ : BufTy).Contents (Elt F) → (⟨S1000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S1000x64 ![0, 1] bcast_S1x64_S1000x64_0_1 : (⟨S1x64, .f32⟩ : BufTy).Contents (Elt F) → (⟨S1000x64, .f32⟩ : BufTy).Contents (Elt F)),
    binary main_v0 main_v2 main_v3 (addf : (⟨S1000x64, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1000x64, .f32⟩) main_call0_v0) (broadcastInDim S1000x64 ![] bcast_S_S1000x64),
    TRef.binary (TRef.of (T := ⟨S1000x64, .f32⟩) main_v3) (TRef.of (T := ⟨S1000x64, .f32⟩) main_call0_v0) (TRef.of (T := ⟨S1000x64, .f32⟩) main_v4) maximumf,
    binary main_v4 main_arg4 main_v5 ((fun l r => Host.dotGeneral dot_S1000x64_S64x32_S1000x32_1_0_0_1_n_n none l r) : (⟨S1000x64, .f32⟩ : BufTy).Contents (Elt F) → (⟨S64x32, .f32⟩ : BufTy).Contents (Elt F) → (⟨S1000x32, .f32⟩ : BufTy).Contents (Elt F)),
    unary main_arg5 main_v6 (broadcastInDim S1x32 ![1] bcast_S32_S1x32_1 : (⟨S32, .f32⟩ : BufTy).Contents (Elt F) → (⟨S1x32, .f32⟩ : BufTy).Contents (Elt F)),
    unary main_v6 main_v7 (broadcastInDim S1000x32 ![0, 1] bcast_S1x32_S1000x32_0_1 : (⟨S1x32, .f32⟩ : BufTy).Contents (Elt F) → (⟨S1000x32, .f32⟩ : BufTy).Contents (Elt F)),
    binary main_v5 main_v7 main_v8 (addf : (⟨S1000x32, .f32⟩ : BufTy).Contents (Elt F) → (⟨S1000x32, .f32⟩ : BufTy).Contents (Elt F) → (⟨S1000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000x32, .f32⟩) main_call1_v0) (broadcastInDim S1000x32 ![] bcast_S_S1000x32),
    TRef.binary (TRef.of (T := ⟨S1000x32, .f32⟩) main_v8) (TRef.of (T := ⟨S1000x32, .f32⟩) main_call1_v0) (TRef.of (T := ⟨S1000x32, .f32⟩) main_v9) maximumf,
    binary main_v9 main_arg6 main_v10 ((fun l r => Host.dotGeneral dot_S1000x32_S32x1_S1000x1_1_0_0_1_n_n none l r) : (⟨S1000x32, .f32⟩ : BufTy).Contents (Elt F) → (⟨S32x1, .f32⟩ : BufTy).Contents (Elt F) → (⟨S1000x1, .f32⟩ : BufTy).Contents (Elt F)),
    unary main_arg7 main_v11 (broadcastInDim S1x1 ![1] bcast_S1_S1x1_1 : (⟨S1, .f32⟩ : BufTy).Contents (Elt F) → (⟨S1x1, .f32⟩ : BufTy).Contents (Elt F)),
    unary main_v11 main_v12 (broadcastInDim S1000x1 ![0, 1] bcast_S1x1_S1000x1_0_1 : (⟨S1x1, .f32⟩ : BufTy).Contents (Elt F) → (⟨S1000x1, .f32⟩ : BufTy).Contents (Elt F)),
    binary main_v10 main_v12 main_v13 (addf : (⟨S1000x1, .f32⟩ : BufTy).Contents (Elt F) → (⟨S1000x1, .f32⟩ : BufTy).Contents (Elt F) → (⟨S1000x1, .f32⟩ : BufTy).Contents (Elt F)),
    reshape main_v13 main_v14 (rfl : (.f32 : EltTy) = .f32) shapeCasts_S1000x1_S1000,
    unary main_v14 main_v15 (Host.negf : (⟨S1000, .f32⟩ : BufTy).Contents (Elt F) → (⟨S1000, .f32⟩ : BufTy).Contents (Elt F)),
    unary main_v15 main_v16 (Host.exp : (⟨S1000, .f32⟩ : BufTy).Contents (Elt F) → (⟨S1000, .f32⟩ : BufTy).Contents (Elt F)),
    nullary main_cst (constant S_ .f32 0x3F800000#32),
    unary main_cst main_v17 (broadcastInDim S1000 ![] bcast_S_S1000 : (⟨S_, .f32⟩ : BufTy).Contents (Elt F) → (⟨S1000, .f32⟩ : BufTy).Contents (Elt F)),
    binary main_v17 main_v16 main_v18 (addf : (⟨S1000, .f32⟩ : BufTy).Contents (Elt F) → (⟨S1000, .f32⟩ : BufTy).Contents (Elt F) → (⟨S1000, .f32⟩ : BufTy).Contents (Elt F)),
    nullary main_cst_0 (constant S_ .f32 0x3F800000#32),
    unary main_cst_0 main_v19 (broadcastInDim S1000 ![] bcast_S_S1000 : (⟨S_, .f32⟩ : BufTy).Contents (Elt F) → (⟨S1000, .f32⟩ : BufTy).Contents (Elt F)),
    binary main_v19 main_v18 main_v20 (Host.divf : (⟨S1000, .f32⟩ : BufTy).Contents (Elt F) → (⟨S1000, .f32⟩ : BufTy).Contents (Elt F) → (⟨S1000, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.binary (TRef.of (T := ⟨S1000, .f32⟩) main_v20) (TRef.of (T := ⟨S_, .f32⟩) main_call2_v0) (TRef.of (T := ⟨S1024, .f32⟩) main_v21) (fun x v => pad S1024 ![0] ![24] ![0] x v pads_S1000_S1024_0240 h_S_),
    unary main_v20 main_v22 (broadcastInDim S1x1000 ![1] bcast_S1000_S1x1000_1 : (⟨S1000, .f32⟩ : BufTy).Contents (Elt F) → (⟨S1x1000, .f32⟩ : BufTy).Contents (Elt F)),
    unary main_v20 main_v23 (broadcastInDim S1000x1 ![0] bcast_S1000_S1000x1_0 : (⟨S1000, .f32⟩ : BufTy).Contents (Elt F) → (⟨S1000x1, .f32⟩ : BufTy).Contents (Elt F)),
    unary main_v22 main_v24 (broadcastInDim S1000x1000 ![0, 1] bcast_S1x1000_S1000x1000_0_1 : (⟨S1x1000, .f32⟩ : BufTy).Contents (Elt F) → (⟨S1000x1000, .f32⟩ : BufTy).Contents (Elt F)),
    unary main_v23 main_v25 (broadcastInDim S1000x1000 ![0, 1] bcast_S1000x1_S1000x1000_0_1 : (⟨S1000x1, .f32⟩ : BufTy).Contents (Elt F) → (⟨S1000x1000, .f32⟩ : BufTy).Contents (Elt F)),
    binary main_v24 main_v25 main_v26 (cmpf .ogt : (⟨S1000x1000, .f32⟩ : BufTy).Contents (Elt F) → (⟨S1000x1000, .f32⟩ : BufTy).Contents (Elt F) → (⟨S1000x1000, .i1⟩ : BufTy).Contents (Elt F)),
    unary main_v26 main_v27 ((extui 32 · natLt_1_32) : (⟨S1000x1000, .i1⟩ : BufTy).Contents (Elt F) → (⟨S1000x1000, .i32⟩ : BufTy).Contents (Elt F)),
    nullary main_c_1 (constantI S_ 32 0#32),
    binary main_v27 main_c_1 main_v28 ((fun x v => Host.reduce IntOp.addi x v reducesTo_S1000x1000_S1000_d1 h_S_) : (⟨S1000x1000, .i32⟩ : BufTy).Contents (Elt F) → (⟨S_, .i32⟩ : BufTy).Contents (Elt F) → (⟨S1000, .i32⟩ : BufTy).Contents (Elt F)),
    nullary main_c_2 (constantI S_ 32 10#32),
    unary main_c_2 main_v29 (broadcastInDim S1000 ![] bcast_S_S1000 : (⟨S_, .i32⟩ : BufTy).Contents (Elt F) → (⟨S1000, .i32⟩ : BufTy).Contents (Elt F)),
    binary main_v28 main_v29 main_v30 (Host.shli : (⟨S1000, .i32⟩ : BufTy).Contents (Elt F) → (⟨S1000, .i32⟩ : BufTy).Contents (Elt F) → (⟨S1000, .i32⟩ : BufTy).Contents (Elt F)),
    nullary main_v31 (iotaInDim S1000 32 0),
    binary main_v30 main_v31 main_v32 (ori : (⟨S1000, .i32⟩ : BufTy).Contents (Elt F) → (⟨S1000, .i32⟩ : BufTy).Contents (Elt F) → (⟨S1000, .i32⟩ : BufTy).Contents (Elt F)),
    nullary main_c_3 (constantI S_ 32 2147483647#32),
    TRef.unary (TRef.of (T := ⟨S_, .i32⟩) main_c_3) (TRef.of (T := ⟨S_, .i32⟩) main_call3_v0) id,
    TRef.binary (TRef.of (T := ⟨S1000, .i32⟩) main_v32) (TRef.of (T := ⟨S_, .i32⟩) main_call3_v0) (TRef.of (T := ⟨S1024, .i32⟩) main_v33) (fun x v => pad S1024 ![0] ![24] ![0] x v pads_S1000_S1024_0240 h_S_),
    reshape main_arg0 main_v34 (rfl : (.i32 : EltTy) = .i32) shapeCasts_S4096x200_S819200 ]

theorem ops1_sub : (ops1 (F := F)).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., binary_bufs_sub .., nullary_bufs_sub .., unary_bufs_sub .., binary_bufs_sub .., reshape_bufs_sub ..⟩

/-- What they write, in order. -/
abbrev wr1 : List (Ref sig .tc) :=
  [main_v0, main_v1, main_v2, main_v3, main_call0_cst, main_call0_v0, main_v4, main_v5, main_v6, main_v7, main_v8, main_call1_cst, main_call1_v0, main_v9, main_v10, main_v11, main_v12, main_v13, main_v14, main_v15, main_v16, main_cst, main_v17, main_v18, main_cst_0, main_v19, main_v20, main_c, main_call2_v0, main_v21, main_v22, main_v23, main_v24, main_v25, main_v26, main_v27, main_c_1, main_v28, main_c_2, main_v29, main_v30, main_v31, main_v32, main_c_3, main_call3_v0, main_v33, main_v34]

theorem ops1_writes : (ops1 (F := F)).map HloOp.writes = wr1.map fun w => {Proc.devRef (τ := τ) .tc w} := rfl

theorem ops1_fresh : (ops1 (F := F)).Forall fun op => op.fresh = ∅ := by
  repeat' (first | exact rfl | apply And.intro)

/-- The operations between the two calls: the padded table and the reshaped arguments. -/
abbrev ops2 : List (HloOp τ sig (Elt F)) :=
  [ reshape main_v35_0 main_v36 (rfl : (.f32 : EltTy) = .f32) shapeCasts_S819200_S4096x200,
    nullary main_c_4 (constantI S_ 32 0#32),
    TRef.unary (TRef.of (T := ⟨S_, .i32⟩) main_c_4) (TRef.of (T := ⟨S_, .f32⟩) main_call4_v0) (sitofp .f32),
    TRef.binary (TRef.of (T := ⟨S1000x128, .f32⟩) main_arg1) (TRef.of (T := ⟨S_, .f32⟩) main_call4_v0) (TRef.of (T := ⟨S1024x128, .f32⟩) main_v37) (fun x v => pad S1024x128 ![0, 0] ![24, 0] ![0, 0] x v pads_S1000x128_S1024x128_0240_000 h_S_),
    reshape main_v35_1 main_v38 (rfl : (.i32 : EltTy) = .i32) shapeCasts_S819200_S4096x200,
    reshape main_arg9 main_v39 (rfl : (.f32 : EltTy) = .f32) shapeCasts_S128_S1x128,
    reshape main_arg11 main_v40 (rfl : (.f32 : EltTy) = .f32) shapeCasts_S128_S1x128,
    reshape main_arg13 main_v41 (rfl : (.f32 : EltTy) = .f32) shapeCasts_S64_S1x64,
    reshape main_arg14 main_v42 (rfl : (.f32 : EltTy) = .f32) shapeCasts_S64x1_S1x64,
    reshape main_arg15 main_v43 (rfl : (.f32 : EltTy) = .f32) shapeCasts_S1_S1x1 ]

theorem ops2_sub : (ops2 (F := F)).Forall fun op => op.bufs ⊆ tcRefs τ sig :=
  ⟨reshape_bufs_sub .., nullary_bufs_sub .., unary_bufs_sub .., binary_bufs_sub .., reshape_bufs_sub .., reshape_bufs_sub .., reshape_bufs_sub .., reshape_bufs_sub .., reshape_bufs_sub .., reshape_bufs_sub ..⟩

/-- What they write, in order. -/
abbrev wr2 : List (Ref sig .tc) :=
  [main_v36, main_c_4, main_call4_v0, main_v37, main_v38, main_v39, main_v40, main_v41, main_v42, main_v43]

theorem ops2_writes : (ops2 (F := F)).map HloOp.writes = wr2.map fun w => {Proc.devRef (τ := τ) .tc w} := rfl

theorem ops2_fresh : (ops2 (F := F)).Forall fun op => op.fresh = ∅ := by
  repeat' (first | exact rfl | apply And.intro)

/-- The operation after them. -/
abbrev ops3 : List (HloOp τ sig (Elt F)) :=
  [ reshape main_v44_1 main_v45 (rfl : (.f32 : EltTy) = .f32) shapeCasts_S4096x1_S4096 ]

theorem ops3_sub : (ops3 (F := F)).Forall fun op => op.bufs ⊆ tcRefs τ sig :=
  reshape_bufs_sub ..

/-- What they write, in order. -/
abbrev wr3 : List (Ref sig .tc) :=
  [main_v45]

theorem ops3_writes : (ops3 (F := F)).map HloOp.writes = wr3.map fun w => {Proc.devRef (τ := τ) .tc w} := rfl

theorem ops3_fresh : (ops3 (F := F)).Forall fun op => op.fresh = ∅ := by
  repeat' (first | exact rfl | apply And.intro)

set_option maxRecDepth 8192 in
set_option maxHeartbeats 2000000 in
theorem main_chain (d : Dev nD) : main (F := F) d
    = seq ops1 >>= fun _ => sc.run d 0 >>= fun _ => seq ops2 >>= fun _ =>
        Prog.lift (.customCall (SparseCore.inner (Pipeline.entry 0)) ()) >>= fun _ => seq ops3 := rfl

end Cert.Proof.Run

end
-- ==== Proof.Main.lean ====
/-
  The run of @main: its host operations, the SparseCore call, and the TensorCore call, in order, with every array of the
  device followed through as one valuation.
-/
module

public import proofs.«01_k».proof.Proof.Tile
public import proofs.«01_k».proof.Proof.Split
public import proofs.«01_k».proof.Proof.Tc
public import proofs.«01_k».proof.Proof.Host

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F] [Named F]

local notation "𝕄" => MM F

/-! ## The TensorCore call -/

abbrev adm : (p : Fin 1) → (pcfgs (F := F) p).Adm := fun p => (cfgs p).toPCfg_adm

theorem phinj : Function.Injective (cellOf (nD := nD) (τ := τ) (pin (pcfgs (F := F)) adm)) := (kit (F := F)).cellOf_inj adm

/-- What the launch deals core `c` of the pipeline's ghost state. -/
def G (c : Dev nD) : sProp 𝕄 := iprop(cellsGhost (pin (pcfgs (F := F)) adm) EP 0 c ∗ toksInit (pin (pcfgs (F := F)) adm) EP 0 c)

theorem region_pre (W : Dev nD → Valuation τ sig (Elt F)) (c : Dev nD) :
    (region W).pre c = iprop(StableHlo.held (c.tc) (arrRefs spec1) (W c) ∗ idle c) := rfl
theorem region_post (W : Dev nD → Valuation τ sig (Elt F)) (c : Dev nD) :
    (region W).post c = iprop(StableHlo.held (c.tc) (arrRefs spec1) (Vend W c) ∗ idle c) := rfl

theorem region_call (W : Dev nD → Valuation τ sig (Elt F)) (c : Dev nD) (Q : PUnit → sProp 𝕄) :
    iprop(boundary (T c) ∗ StableHlo.held (T c) (arrRefs spec1) (W c) ∗ idle c ∗ levAts (K (F := F)).L (K (F := F)).lev ∗ G c
        ∗ (iprop(boundary (T c) ∗ StableHlo.held (T c) (arrRefs spec1) (Vend W c) ∗ idle c) -∗ Q ⟨⟩))
      ⊢ wp frame (wpE ((K (F := F)).defs (D (F := F))) 𝒱 (T c) none) Set.univ
          (Prog.lift (.customCall (SparseCore.inner (Pipeline.entry 0)) ())) Q := by
  refine (show _ ⊢ (wp frame (wpE (D (F := F)) 𝒱 (T c) none) Set.univ (Prog.op (.customCall (Pipeline.entry 0) ()) .ret) Q : sProp 𝕄) from ?_).trans
    ((K (F := F)).wp_liftProg (D (F := F)) 𝒱 (T c) Set.univ none _ Q)
  refine (show _ ⊢ (_ : sProp 𝕄) from ?_).trans (RegionSeg.wp (pcfgs (F := F)) adm (dats W) none phinj EP (defs₀ (F := F)) 𝒱₀ (K (F := F)).L (K (F := F)).lev
    (region W) c none (fun u hu => nomatch hu) .ret Q)
  rw [region_pre, region_post]
  unfold G
  iintro ⟨Hb, Ha, Hi, HL, ⟨Hg, Ht⟩, Hk⟩
  isplitl [Hk]
  · iintro ⟨Hb, Ha, Hi⟩
    simp only [wp_ret]
    imodintro
    iapply Hk $$ [Hb Ha Hi]
    isplitl [Hb]
    · iexact Hb
    isplitl [Ha]
    · iexact Ha
    iexact Hi
  isplitl [Hb]
  · iexact Hb
  isplitl [Ha Hi]
  · isplitl [Ha]
    · iexact Ha
    iexact Hi
  isplitl [HL]
  · iexact HL
  isplitl [Hg]
  · iexact Hg
  iexact Ht

/-! ## The launch's ghost state -/

def u₀ : UU := (initOf (K (F := F)).hsCells (K (F := F)).hsToks, (initOf (cells (pin (pcfgs (F := F)) adm) phinj) (launchToks (pin (pcfgs (F := F)) adm) phinj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

variable (m : (ℓ : Loc nD τ sig) → Buf (Elt F) ℓ) (ρ : Dev nD → PrngReg)

/-- The memory the SparseCore call finds. -/
def m1 : (ℓ : Loc nD τ sig) → Buf (Elt F) ℓ := fun ℓ => StableHlo.after ops1 (fun b => m (ℓ.1, b)) ℓ.2

theorem hu₀ : (ownU (u₀ (F := F)) : sProp 𝕄)
    ⊢ |={Set.univ}=> iprop(BI.own (EH (initOf (K (F := F)).hsCells (K (F := F)).hsToks)) ∗ (bigSep Finset.univ (G (F := F)))
        ∗ (bigSep Finset.univ fun thr : Thread nD τ => bigSep Finset.univ fun q : Fin 1 => (P (m1 m)).x q thr) : sProp 𝕄) := by
  have hx : (bigSep Finset.univ fun thr : Thread nD τ => bigSep Finset.univ fun q : Fin 1 => (P (m1 m)).x q thr : sProp 𝕄) = iprop(emp) := by
    have : (fun thr : Thread nD τ => bigSep Finset.univ fun q : Fin 1 => (P (m1 m)).x q thr : Thread nD τ → sProp 𝕄) = fun _ => iprop(emp) :=
      funext fun thr => BI.bigSep_emp_const _
    rw [this]; exact BI.bigSep_emp_const _
  have hG : (bigSep Finset.univ (G (F := F)) : sProp 𝕄)
      = iprop((bigSep Finset.univ fun c : Dev nD => bigSep Finset.univ fun p => cellsGhost (pin (pcfgs (F := F)) adm) EP p c)
          ∗ (bigSep Finset.univ fun c : Dev nD => bigSep Finset.univ fun p => toksInit (pin (pcfgs (F := F)) adm) EP p c)) := by
    refine Eq.trans (congrArg _ (funext fun c => ?_)) (BI.bigSep_sep _ _ _)
    rw [show (Finset.univ : Finset (Fin 1)) = {0} from rfl, BI.bigSep_singleton, BI.bigSep_singleton]
    rfl
  rw [hx, hG]
  unfold u₀
  iintro Hu
  ihave H := (ownU_split _ _) $$ Hu
  icases H with ⟨HH, HP⟩
  imod (fund_ghost (pin (pcfgs (F := F)) adm) EP phinj) $$ HP with ⟨Hg, Ht⟩
  imodintro
  isplitl [HH]
  · iexact HH
  isplitl [Hg Ht]
  · isplitl [Hg]
    · iexact Hg
    iexact Ht
  iempintro

/-! ## The arrays along the run -/

/-- Before the SparseCore call, after it, before the TensorCore call, after it, and at the end. -/
def V1 (d : Dev nD) : Valuation τ sig (Elt F) := StableHlo.after ops1 fun b => m (d, b)
def V2 (d : Dev nD) : Valuation τ sig (Elt F) :=
  Function.update (Function.update (V1 m d) (Proc.devRef .tc main_v35_0) (gath1 (m1 m) d)) (Proc.devRef .tc main_v35_1) (gath2 (m1 m) d)
def V3 (d : Dev nD) : Valuation τ sig (Elt F) := StableHlo.after ops2 (V2 m d)
def V4 (d : Dev nD) : Valuation τ sig (Elt F) := Vend (V3 m) d
def V5 (d : Dev nD) : Valuation τ sig (Elt F) := StableHlo.after ops3 (V4 m d)

/-- The five arrays of the SparseCore call. -/
def refs5 : Finset (DevRef τ sig) :=
  {Proc.devRef .tc main_v21, Proc.devRef .tc main_v33, Proc.devRef .tc main_v34, Proc.devRef .tc main_v35_0, Proc.devRef .tc main_v35_1}

theorem refs5_sub : refs5 ⊆ ucRefs τ sig := by decide

theorem held_refs5 (d : Dev nD) (W : Valuation τ sig (Elt F)) :
    (StableHlo.held (T d) refs5 W : sProp 𝕄)
      = iprop((svLoc d ↦{fullShare} W (Proc.devRef .tc main_v21)) ∗ (ridLoc d ↦{fullShare} W (Proc.devRef .tc main_v33))
          ∗ (xLoc d ↦{fullShare} W (Proc.devRef .tc main_v34)) ∗ (o1Loc d ↦{fullShare} W (Proc.devRef .tc main_v35_0))
          ∗ (o2Loc d ↦{fullShare} W (Proc.devRef .tc main_v35_1))) := by
  unfold StableHlo.held refs5
  rw [BI.bigSep_insert (by decide), BI.bigSep_insert (by decide), BI.bigSep_insert (by decide), BI.bigSep_insert (by decide), BI.bigSep_singleton]
  rfl

theorem call_args (d : Dev nD) :
    (StableHlo.held (T d) (ucRefs τ sig) (V1 m d) : sProp 𝕄)
      = iprop(callArrs (m1 m) d (m1 m (o1Loc d)) (m1 m (o2Loc d)) ∗ StableHlo.held (T d) (ucRefs τ sig \ refs5) (V1 m d)) := by
  rw [StableHlo.held_sub_split (T d) refs5_sub, held_refs5]
  rfl

theorem V2_of_ne (d : Dev nD) (b : DevRef τ sig) (h0 : b ≠ Proc.devRef .tc main_v35_0) (h1 : b ≠ Proc.devRef .tc main_v35_1) : V2 m d b = V1 m d b := by
  unfold V2
  rw [Function.update_of_ne h1, Function.update_of_ne h0]
theorem V2_0 (d : Dev nD) : V2 m d (Proc.devRef .tc main_v35_0) = gath1 (m1 m) d := by
  unfold V2
  rw [Function.update_of_ne (by decide), Function.update_self]
theorem V2_1 (d : Dev nD) : V2 m d (Proc.devRef .tc main_v35_1) = gath2 (m1 m) d := by
  unfold V2
  rw [Function.update_self]

theorem call_res (d : Dev nD) :
    (StableHlo.held (T d) (ucRefs τ sig) (V2 m d) : sProp 𝕄)
      = iprop(callArrs (m1 m) d (gath1 (m1 m) d) (gath2 (m1 m) d) ∗ StableHlo.held (T d) (ucRefs τ sig \ refs5) (V1 m d)) := by
  rw [StableHlo.held_sub_split (T d) refs5_sub, held_refs5, V2_0, V2_1, V2_of_ne m d _ (by decide) (by decide), V2_of_ne m d _ (by decide) (by decide),
    V2_of_ne m d _ (by decide) (by decide),
    StableHlo.held_congr (T d) (V := V2 m d) (V' := V1 m d) (S := ucRefs τ sig \ refs5) fun b hb => V2_of_ne m d b
      (fun h => (Finset.mem_sdiff.mp hb).2 (h ▸ by decide)) (fun h => (Finset.mem_sdiff.mp hb).2 (h ▸ by decide))]
  rfl

theorem arr_sub : arrRefs spec1 ⊆ ucRefs τ sig := arrRefs_sub_ucRefs spec1 fun w => by fin_cases w <;> rfl

theorem arr_mem10 : (Proc.devRef .tc main_v44_0 : DevRef τ sig) ∈ arrRefs spec1 :=
  Finset.mem_map.mpr ⟨_, Finset.mem_image.mpr ⟨(10 : Fin 12), Finset.mem_univ _, rfl⟩, rfl⟩
theorem arr_mem11 : (Proc.devRef .tc main_v44_1 : DevRef τ sig) ∈ arrRefs spec1 :=
  Finset.mem_map.mpr ⟨_, Finset.mem_image.mpr ⟨(11 : Fin 12), Finset.mem_univ _, rfl⟩, rfl⟩

theorem tc_args (d : Dev nD) (W : Dev nD → Valuation τ sig (Elt F)) :
    (StableHlo.held (T d) (ucRefs τ sig) (W d) : sProp 𝕄)
      = iprop(StableHlo.held (T d) (arrRefs spec1) (W d) ∗ StableHlo.held (T d) (ucRefs τ sig \ arrRefs spec1) (W d)) :=
  StableHlo.held_sub_split (T d) arr_sub _

theorem tc_res (d : Dev nD) (W : Dev nD → Valuation τ sig (Elt F)) :
    (StableHlo.held (T d) (ucRefs τ sig) (Vend W d) : sProp 𝕄)
      = iprop(StableHlo.held (T d) (arrRefs spec1) (Vend W d) ∗ StableHlo.held (T d) (ucRefs τ sig \ arrRefs spec1) (W d)) := by
  rw [StableHlo.held_sub_split (T d) arr_sub]
  refine congrArg (fun X : sProp 𝕄 => iprop(_ ∗ X)) (StableHlo.held_congr (T d) fun b hb => Vend_of_ne W d b ?_ ?_)
  · rintro rfl
    exact (Finset.mem_sdiff.mp hb).2 arr_mem10
  · rintro rfl
    exact (Finset.mem_sdiff.mp hb).2 arr_mem11

theorem st_idle (d : Dev nD) : ∃ R : sProp 𝕄, (K (F := F)).tcSt EH d 1 = iprop(idle d ∗ R) :=
  ⟨_, by unfold SparseCore.Cfg.tcSt idle; rw [(K (F := F)).Otc_end d le_rfl]; rfl⟩

set_option backward.isDefEq.respectTransparency.types false in
set_option maxHeartbeats 1000000 in
/-- The five stages over any host operations: what each leaves is what the next finds. -/
theorem chain (o1 o2 o3 : List (HloOp τ sig (Elt F)))
    (b1 : ∀ op ∈ o1, op.bufs ⊆ ucRefs τ sig) (b2 : ∀ op ∈ o2, op.bufs ⊆ ucRefs τ sig) (b3 : ∀ op ∈ o3, op.bufs ⊆ ucRefs τ sig)
    (f1 : ∀ op ∈ o1, op.fresh = ∅) (f2 : ∀ op ∈ o2, op.fresh = ∅) (f3 : ∀ op ∈ o3, op.fresh = ∅)
    (m' : (ℓ : Loc nD τ sig) → Buf (Elt F) ℓ) (W0 W2 : Valuation τ sig (Elt F)) (W3 : Dev nD → Valuation τ sig (Elt F)) (κ : GSem nD τ sig → ℕ) (d : Dev nD) (X : sProp 𝕄)
    (hin : (StableHlo.held (T d) (ucRefs τ sig) (StableHlo.after o1 W0) : sProp 𝕄) = iprop(callArrs m' d (m' (o1Loc d)) (m' (o2Loc d)) ∗ X))
    (hout : (StableHlo.held (T d) (ucRefs τ sig) W2 : sProp 𝕄) = iprop(callArrs m' d (gath1 m' d) (gath2 m' d) ∗ X))
    (h3 : W3 d = StableHlo.after o2 W2) :
    iprop((K (F := F)).ctx EH (P m') κ ∗ (K (F := F)).tcSt EH d 0 ∗ (boundary (T d) ∗ StableHlo.held (T d) (ucRefs τ sig) W0 ∗ (K (F := F)).tcSems0 d) ∗ G d)
      ⊢ wp frame (wpE ((K (F := F)).defs (D (F := F))) 𝒱 (SparseCore.T d) none) Set.univ
          (StableHlo.seq o1 >>= fun _ => sc.run d 0 >>= fun _ => StableHlo.seq o2 >>= fun _ =>
            Prog.lift (.customCall (SparseCore.inner (Pipeline.entry 0)) ()) >>= fun _ => StableHlo.seq o3)
          fun _ => iprop((K (F := F)).tcSt EH d 1 ∗ StableHlo.held (T d) (ucRefs τ sig) (StableHlo.after o3 (Vend W3 d))
            ∗ boundary (T d) ∗ (K (F := F)).tcSems0 d) := by
  obtain ⟨R, hR⟩ := st_idle (F := F) d
  have hR' : (K (F := F)).tcSt EH d ((0 : Fin 1).val + 1) = iprop(idle d ∗ R) := hR
  rw [← bind_pure (StableHlo.seq o3)]
  iintro ⟨#Hctx, Hst, ⟨Hb, Hu, Hts⟩, HG⟩
  iapply (StableHlo.wp_seq 𝒱 none Set.univ d (ucRefs τ sig) _ o1 b1 f1 _) $$ [Hb Hu]
  · isplitl [Hb]
    · iexact Hb
    iexact Hu
  iintro ⟨Hb, Hu⟩
  ihave Hu := (Entails.of_eq hin) $$ Hu
  icases Hu with ⟨Hc, Hr⟩
  ihave Hc := (call_in m' d) $$ Hc
  icases Hc with ⟨Hc, Hk⟩
  rw [wp_bind]
  iapply ((K (F := F)).wp_run (D (F := F)) 𝒱 (EH := EH) (P := P m') κ d 0) $$ [Hst Hc Hk Hr Hb Hts HG]
  isplitr
  · iexact Hctx
  isplitl [Hst]
  · iexact Hst
  isplitl [Hc]
  · iexact Hc
  iintro ⟨Hst, Hdn⟩
  ihave Hc := (call_out m' d) $$ [Hdn Hk]
  · isplitl [Hdn]
    · iexact Hdn
    iexact Hk
  ihave Hu := (Entails.of_eq hout.symm) $$ [Hc Hr]
  · isplitl [Hc]
    · iexact Hc
    iexact Hr
  iapply (StableHlo.wp_seq 𝒱 none Set.univ d (ucRefs τ sig) _ o2 b2 f2 _) $$ [Hb Hu]
  · isplitl [Hb]
    · iexact Hb
    iexact Hu
  iintro ⟨Hb, Hu⟩
  ihave Hu := (Entails.of_eq (congrArg (fun V => (StableHlo.held (T d) (ucRefs τ sig) V : sProp 𝕄)) h3.symm)) $$ Hu
  ihave Hu := (Entails.of_eq (tc_args d W3)) $$ Hu
  icases Hu with ⟨Ha, Hr⟩
  ihave Hst := (Entails.of_eq hR') $$ Hst
  icases Hst with ⟨Hi, HR⟩
  rw [wp_bind]
  iapply (region_call W3 d _) $$ [Hb Ha Hi HG Hr HR Hts]
  isplitl [Hb]
  · iexact Hb
  isplitl [Ha]
  · iexact Ha
  isplitl [Hi]
  · iexact Hi
  isplitr
  · iapply ((K (F := F)).ctx_levAts κ)
    iexact Hctx
  isplitl [HG]
  · iexact HG
  iintro ⟨Hb, Ha, Hi⟩
  ihave Hu := (Entails.of_eq (tc_res d W3).symm) $$ [Ha Hr]
  · isplitl [Ha]
    · iexact Ha
    iexact Hr
  ihave Hst := (Entails.of_eq hR.symm) $$ [Hi HR]
  · isplitl [Hi]
    · iexact Hi
    iexact HR
  iapply (StableHlo.wp_seq 𝒱 none Set.univ d (ucRefs τ sig) _ o3 b3 f3 _) $$ [Hb Hu]
  · isplitl [Hb]
    · iexact Hb
    iexact Hu
  iintro ⟨Hb, Hu⟩
  rw [wp_pure]
  imodintro
  isplitl [Hst]
  · iexact Hst
  isplitl [Hu]
  · iexact Hu
  isplitl [Hb]
  · iexact Hb
  iexact Hts

/-- What @main ends with: every array at its last contents. -/
def FIN (d : Dev nD) : sProp 𝕄 := StableHlo.held (T d) (ucRefs τ sig) (V5 m d)

theorem FIN_eq (d : Dev nD) : FIN m d = StableHlo.held (T d) (ucRefs τ sig) (StableHlo.after ops3 (Vend (V3 m) d)) := by
  unfold FIN V5 V4
  rfl

end Cert.Proof.Run

end
-- ==== Proof.Run.lean ====
/-
  The run of the launched program: at its end every array of the device is at the last of its contents.
-/
module

public import proofs.«01_k».proof.Proof.Main

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F] [Named F]

local notation "𝕄" => MM F

variable (m : (ℓ : Loc nD τ sig) → Buf (Elt F) ℓ) (ρ : Dev nD → PrngReg)

/-- `chain` with the program, the arrays found and the arrays left given by name. -/
theorem chain_named (o1 o2 o3 : List (HloOp τ sig (Elt F)))
    (b1 : ∀ op ∈ o1, op.bufs ⊆ ucRefs τ sig) (b2 : ∀ op ∈ o2, op.bufs ⊆ ucRefs τ sig) (b3 : ∀ op ∈ o3, op.bufs ⊆ ucRefs τ sig)
    (f1 : ∀ op ∈ o1, op.fresh = ∅) (f2 : ∀ op ∈ o2, op.fresh = ∅) (f3 : ∀ op ∈ o3, op.fresh = ∅)
    (m' : (ℓ : Loc nD τ sig) → Buf (Elt F) ℓ) (W0 W2 : Valuation τ sig (Elt F)) (W3 : Dev nD → Valuation τ sig (Elt F)) (κ : GSem nD τ sig → ℕ) (d : Dev nD) (X B Y Z : sProp 𝕄)
    (p : Prog (TpuEff nD τ sig (Elt F) (SparseCore.Sig (ΛP (F := F)) 1) .tc) PUnit)
    (hin : (StableHlo.held (T d) (ucRefs τ sig) (StableHlo.after o1 W0) : sProp 𝕄) = iprop(callArrs m' d (m' (o1Loc d)) (m' (o2Loc d)) ∗ X))
    (hout : (StableHlo.held (T d) (ucRefs τ sig) W2 : sProp 𝕄) = iprop(callArrs m' d (gath1 m' d) (gath2 m' d) ∗ X))
    (h3 : W3 d = StableHlo.after o2 W2)
    (hp : p = (StableHlo.seq o1 >>= fun _ => sc.run d 0 >>= fun _ => StableHlo.seq o2 >>= fun _ =>
            Prog.lift (.customCall (SparseCore.inner (Pipeline.entry 0)) ()) >>= fun _ => StableHlo.seq o3))
    (hB : B = StableHlo.held (T d) (ucRefs τ sig) W0) (hY : Y = StableHlo.held (T d) (ucRefs τ sig) (StableHlo.after o3 (Vend W3 d))) :
    iprop((K (F := F)).ctx EH (P m') κ ∗ (K (F := F)).tcSt EH d 0 ∗ (boundary (T d) ∗ B ∗ (K (F := F)).tcSems0 d ∗ Z) ∗ G d)
      ⊢ wp frame (wpE ((K (F := F)).defs (D (F := F))) 𝒱 (SparseCore.T d) none) Set.univ p
          fun _ => iprop((K (F := F)).tcSt EH d 1 ∗ Y ∗ boundary (T d) ∗ (K (F := F)).tcSems0 d) := by
  subst hp hB hY
  refine (show _ ⊢ (_ : sProp 𝕄) from ?_).trans (chain o1 o2 o3 b1 b2 b3 f1 f2 f3 m' W0 W2 W3 κ d X hin hout h3)
  iintro ⟨#Hctx, Hst, ⟨Hb, Hu, Hts, -⟩, HG⟩
  isplitr
  · iexact Hctx
  isplitl [Hst]
  · iexact Hst
  isplitr [HG]
  · isplitl [Hb]
    · iexact Hb
    isplitl [Hu]
    · iexact Hu
    iexact Hts
  iexact HG

set_option maxRecDepth 20000 in
theorem hmain (κ : GSem nD τ sig → ℕ) (d : Dev nD) :
    iprop((K (F := F)).ctx EH (P (m1 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hsub : ∀ {ops : List (HloOp τ sig (Elt F))}, (ops.Forall fun op => op.bufs ⊆ StableHlo.tcRefs τ sig) → ∀ op ∈ ops, op.bufs ⊆ ucRefs τ sig :=
    fun h op hop => sub_ucRefs op (List.forall_iff_forall_mem.mp h op hop)
  have hV := call_args m d
  have hB : (unscopedBufs d (fun b => m ((SparseCore.T d).loc b)) : sProp 𝕄) = StableHlo.held (T d) (ucRefs τ sig) (fun b => m (d, b)) :=
    unscopedBufs_held (Ix := HIx 1) (Name := ℕ) (U := UU) (Lvl := ℕ) d (fun b => m (d, b))
  have h := chain_named ops1 ops2 ops3 (hsub ops1_sub) (hsub ops2_sub) (hsub ops3_sub) (List.forall_iff_forall_mem.mp ops1_fresh)
    (List.forall_iff_forall_mem.mp ops2_fresh) (List.forall_iff_forall_mem.mp ops3_fresh) (m1 m) (fun b => m (d, b)) (V2 m d) (V3 m) κ d _ _ _
    (prngReg d (ρ d)) _ (by unfold V1 at hV; exact hV) (call_res m d) (by unfold V3; rfl) (main_chain d) hB (FIN_eq m d)
  unfold SparseCore.Cfg.tcRes SparseCore.Cfg.tcEnd
  exact h

/-! ## The run -/

def fq (d : Dev nD) (s' : Phys nD τ sig (Elt F)) : Prop := ∀ b ∈ ucRefs τ sig, s'.mem.mem (d, b) = V5 m d b

theorem read_at (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin_held (d : Dev nD) (S : Finset (DevRef τ sig)) (W : Valuation τ sig (Elt F)) (s' : Phys nD τ sig (Elt F)) :
    iprop(StableHlo.held (T d) S W ∗ SI s') ⊢ (⌜∀ b ∈ S, s'.mem.mem (d, b) = W b⌝ : sProp 𝕄) :=
  fun x hx b hb => ((sep_mono_left (SparseCore.ent (bigSep_elim hb))).trans (read_at (d, b) (W b) s')) x hx

theorem hfin (d : Dev nD) (s' : Phys nD τ sig (Elt F)) : iprop(FIN m d ∗ SI s') ⊢ (⌜fq m d s'⌝ : sProp 𝕄) :=
  hfin_held d (ucRefs τ sig) (V5 m d) s'

set_option maxHeartbeats 1000000 in
/-- Every array at the end of the run is at its last contents, and every semaphore is zero. -/
theorem run [∀ e, Nonempty (Elt F e)] (hpre : IdsOK (m1 m)) :
    θ_run (Cert.KernelIdeal.defs (F := F)) (Cert.KernelIdeal.threads (F := F)) ⟨m, fun _ => 0, ρ⟩
      fun r => (∀ d : Dev nD, ∀ b ∈ ucRefs τ sig, r.2.mem (d, b) = V5 m d b) ∧ r.2.sem = fun _ => 0 :=
  SparseCore.Cfg.θ_run_sc_quiescent (K := K (F := F)) (D := D (F := F)) (𝒱 := 𝒱) (EH := EH) (P := P (m1 m)) (A := ∅) facts v₀
    (fun q hq => match q with | 0 => nomatch hq)
    (fun q _ => match q with | 0 => tileObl (m1 m) facts hpre)
    (fun q _ => match q with | 0 => SparseCore.Cfg.VecSplit.of_plain (vecSplit (m1 m)))
    m ρ main (G (F := F)) (FIN m) (u₀ (F := F)) (sep_elim_left.trans (hu₀ m)) (hmain m ρ) (fq m) (hfin m) _ (fun _ h hz => ⟨h, hz⟩)

end Cert.Proof.Run

end
-- ==== Proof.Frames.lean ====
/-
  The program's run under its precondition: the ids in range, the arguments unchanged, every semaphore at zero.
-/
module

public import proofs.«01_k».proof.Proof.Run
public import proofs.«01_k».proof.Proof.Gen.Pre_ids_in_range
public import Idealize.ShloMosaic.Lib.StableHlo.RunRead
public import Idealize.ShloMosaic.Lib.ReduceAll

@[expose] public section

noncomputable section

namespace Cert.Proof.Run

open Cert.KernelIdeal Cert.KernelIdeal.Gen
open Idealize.ShloMosaic Idealize.ShloMosaic.TcCoe Idealize.SL.Sem Idealize.ShloMosaic.StableHlo
open Idealize.ShloMosaic.Pipeline (ucRefs)

variable {F : FTy → Type} [FloatOps F] [Named F]

variable (m : (ℓ : Loc nD τ sig) → Buf (Elt F) ℓ) (ρ : Dev nD → PrngReg)

theorem V1_unwritten (d : Dev nD) (r : Ref sig .tc) (h : r ∉ wr1) : V1 m d (Proc.devRef .tc r) = m (d, Proc.devRef .tc r) :=
  after_unwritten wr1 ops1_writes h _

theorem V3_unwritten (d : Dev nD) (r : Ref sig .tc) (h : r ∉ wr2) : V3 m d (Proc.devRef .tc r) = V2 m d (Proc.devRef .tc r) :=
  after_unwritten wr2 ops2_writes h _

theorem V5_unwritten (d : Dev nD) (r : Ref sig .tc) (h : r ∉ wr3) : V5 m d (Proc.devRef .tc r) = V4 m d (Proc.devRef .tc r) :=
  after_unwritten wr3 ops3_writes h _

/-- An array no operation and no call writes keeps its contents. -/
theorem V5_kept (d : Dev nD) (r : Ref sig .tc) (h1 : r ∉ wr1) (h2 : r ∉ wr2) (h3 : r ∉ wr3)
    (h4 : r ≠ main_v35_0 ∧ r ≠ main_v35_1 ∧ r ≠ main_v44_0 ∧ r ≠ main_v44_1) : V5 m d (Proc.devRef .tc r) = m (d, Proc.devRef .tc r) := by
  obtain ⟨n0, n1, n2, n3⟩ := h4
  have ne : ∀ {a b : Ref sig .tc}, a ≠ b → (Proc.devRef .tc a : DevRef τ sig) ≠ Proc.devRef .tc b := fun h e => h (Proc.devRef_injective _ e)
  rw [V5_unwritten m d r h3]
  unfold V4
  rw [Vend_of_ne (V3 m) d _ (ne n2) (ne n3), V3_unwritten m d r h2, V2_of_ne m d _ (ne n0) (ne n1), V1_unwritten m d r h1]

/-- The precondition, each id in turn. -/
theorem ids_of_pre (a0 : IVec S4096x200 32) (a1 : FVec F S1000x128 .f32) (a2 : FVec F S128x64 .f32) (a3 : FVec F S64 .f32) (a4 : FVec F S64x32 .f32)
    (a5 : FVec F S32 .f32) (a6 : FVec F S32x1 .f32) (a7 : FVec F S1 .f32) (a8 : FVec F S128x128 .f32) (a9 : FVec F S128 .f32) (a10 : FVec F S128x128 .f32)
    (a11 : FVec F S128 .f32) (a12 : FVec F S128x64 .f32) (a13 : FVec F S64 .f32) (a14 : FVec F S64x1 .f32) (a15 : FVec F S1 .f32)
    (h : (Cert.Pre_ids_in_range.fn (F := F) a0 a1 a2 a3 a4 a5 a6 a7 a8 a9 a10 a11 a12 a13 a14 a15) = fun _ => 1#1) (i : S4096x200.Idx) : (a0 i).toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1000#32) = 1#1 → v.toNat < 1000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (Shape.Idx.first Cert.Pre_ids_in_range.Facts.h_S_)
  simp only [Cert.Pre_ids_in_range.fn] at e
  exact key _ (Host.reduce_andi_eq_one _ _ _ _ _ e i (Subsingleton.elim _ _))

/-- The ids. -/
abbrev xArg (d : Dev nD) : S4096x200.Idx → BitVec 32 := m (d, Proc.devRef .tc main_arg0)

theorem V1_x (d : Dev nD) : V1 m d (Proc.devRef .tc main_v34) = shapeCast S819200 (xArg m d) := by
  unfold V1
  after_reads_simp
  rfl

theorem ids_ok (h : ∀ d : Dev nD, ∀ i : S4096x200.Idx, ((m (d, Proc.devRef .tc main_arg0) : S4096x200.Idx → BitVec 32) i).toNat < 1000) : IdsOK (m1 m) := by
  intro d j
  have e : (m1 m (xLoc d) : S819200.Idx → BitVec 32) = shapeCast S819200 (xArg m d) := V1_x m d
  rw [e]
  exact (h d _).trans (by decide)

/-- The program's arguments. -/
def argRefs : List (Ref sig .tc) :=
  [main_arg0, main_arg1, main_arg2, main_arg3, main_arg4, main_arg5, main_arg6, main_arg7, main_arg8, main_arg9, main_arg10, main_arg11, main_arg12,
    main_arg13, main_arg14, main_arg15]

theorem args_kept (d : Dev nD) (a : Ref sig .tc) (ha : a ∈ argRefs) : V5 m d (Proc.devRef .tc a) = m (d, Proc.devRef .tc a) := by
  have h : ∀ a ∈ argRefs, a ∉ wr1 ∧ a ∉ wr2 ∧ a ∉ wr3 ∧ a ≠ main_v35_0 ∧ a ≠ main_v35_1 ∧ a ≠ main_v44_0 ∧ a ≠ main_v44_1 := by decide +kernel
  obtain ⟨h1, h2, h3, h4⟩ := h a ha
  exact V5_kept m d a h1 h2 h3 h4

theorem unscoped : ∀ a ∈ argRefs ++ [main_v45, main_v44_0, main_v36], (Proc.devRef .tc a : DevRef τ sig) ∈ ucRefs τ sig := by decide +kernel

/-- The run, read at the arguments and the results. -/
theorem run_args [∀ e, Nonempty (Elt F e)]
    (h : ∀ d : Dev nD, ∀ i : S4096x200.Idx, ((m (d, Proc.devRef .tc main_arg0) : S4096x200.Idx → BitVec 32) i).toNat < 1000) :
    θ_run (Cert.KernelIdeal.defs (F := F)) (Cert.KernelIdeal.threads (F := F)) ⟨m, fun _ => 0, ρ⟩
      fun r => ((∀ d : Dev nD, ∀ a ∈ argRefs, r.2.mem (d, Proc.devRef .tc a) = m (d, Proc.devRef .tc a)) ∧ r.2.sem = fun _ => 0)
        ∧ ∀ d : Dev nD, ∀ a ∈ [main_v45, main_v44_0, main_v36], r.2.mem (d, Proc.devRef .tc a) = V5 m d (Proc.devRef .tc a) :=
  (θ_run Cert.KernelIdeal.defs _ _).mono (fun _ hr => ⟨⟨fun d a ha => (hr.1 d _ (unscoped a (List.mem_append_left _ ha))).trans (args_kept m d a ha), hr.2⟩,
    fun d a ha => hr.1 d _ (unscoped a (List.mem_append_right _ ha))⟩) (run m ρ (ids_ok m h))

end Cert.Proof.Run

end
-- ==== Proof.Same.lean ====
/-
  The kernel and its idealized form are one program over the bit patterns, a named constant read there as its own
  pattern: what is proved of the second at every float values is then proved of the first.
-/
module

public import proofs.«01_k».proof.Defs
public import proofs.«01_k».proof.Proof.Gen.KernelIdeal
public import proofs.«01_k».proof.Proof.Gen.Kernel

@[expose] public section

noncomputable section

namespace Cert.Proof.Same

open Idealize.ShloMosaic

/-- A named constant at the bit patterns: the pattern it was printed with. -/
@[reducible] def namedBits : Named Bits where
  named _ _ _ b := Scalar.ofBits _ b

attribute [local instance] namedBits

set_option backward.isDefEq.respectTransparency false
set_option backward.isDefEq.respectTransparency.types false
set_option maxHeartbeats 1000000

theorem sc_eq : Cert.KernelIdeal.sc (F := Bits) = Cert.Kernel.sc (F := Bits) := rfl

theorem main_eq : Cert.KernelIdeal.main (F := Bits) = Cert.Kernel.main (F := Bits) := rfl

theorem defs₀_eq : Cert.KernelIdeal.defs₀ (F := Bits) = Cert.Kernel.defs₀ (F := Bits) := by
  funext p ℓ a
  rcases p with _ | c | ⟨c, s⟩ <;> rcases ℓ with ⟨_ | _ | n, h⟩
  all_goals first | rfl | exact absurd h (by omega)

theorem defs_eq : Cert.KernelIdeal.defs (F := Bits) = Cert.Kernel.defs (F := Bits) := by
  show SparseCore.Cfg.defs _ (Pipeline.defs Cert.KernelIdeal.pcfgs Cert.KernelIdeal.defs₀) = SparseCore.Cfg.defs _ (Pipeline.defs Cert.Kernel.pcfgs Cert.Kernel.defs₀)
  rw [defs₀_eq]
  rfl

theorem threads_eq : Cert.KernelIdeal.threads (F := Bits) = Cert.Kernel.threads (F := Bits) := by
  show SparseCore.Cfg.threads Cert.KernelIdeal.sc Cert.KernelIdeal.main = SparseCore.Cfg.threads Cert.Kernel.sc Cert.Kernel.main
  rw [main_eq]
  rfl

end Cert.Proof.Same

end
-- ==== Proof.Ends.lean ====
/-
  The claims that speak of no value: the programs run, their arguments end unchanged and every semaphore at zero; and
  the named constant is the value it stands for.
-/
module

public import proofs.«01_k».proof.Defs
public import proofs.«01_k».proof.Proof.Gen.ReferenceIdeal.Run
public import proofs.«01_k».proof.Proof.Frames
public import proofs.«01_k».proof.Proof.Same

@[expose] public section

noncomputable section

namespace Cert.Proof.Ends

open Idealize.ShloMosaic Idealize.SL.Sem Cert.KernelIdeal Cert.Proof.Run

instance hKernel : Cert.Kernel.Facts := Cert.Kernel.Gen.facts
instance hKernelIdeal : Cert.KernelIdeal.Facts := Cert.KernelIdeal.Gen.facts
instance hReferenceIdeal : Cert.ReferenceIdeal.Facts := Cert.ReferenceIdeal.Gen.facts
instance hPre : Cert.Pre_ids_in_range.Facts := Cert.Pre_ids_in_range.Gen.facts

/-- What holds of each argument, written out. -/
theorem each {P : Ref sig .tc → Prop} (H : ∀ a ∈ argRefs, P a) :
    P main_arg0 ∧ P main_arg1 ∧ P main_arg2 ∧ P main_arg3 ∧ P main_arg4 ∧ P main_arg5 ∧ P main_arg6 ∧ P main_arg7 ∧ P main_arg8 ∧ P main_arg9
      ∧ P main_arg10 ∧ P main_arg11 ∧ P main_arg12 ∧ P main_arg13 ∧ P main_arg14 ∧ P main_arg15 := by
  simpa only [argRefs, List.forall_mem_cons, List.not_mem_nil, false_implies, implies_true, and_true] using H

theorem frame_KernelIdeal : Cert.quiescent_KernelIdeal := fun m g h =>
  (θ_run Cert.KernelIdeal.defs _ _).mono (fun _ hr => ⟨fun c => each (P := fun a => _ = m (c, Proc.devRef .tc a)) (hr.1.1 c), hr.1.2⟩)
    (run_args (F := Ideal) m g fun d i => ids_of_pre _ _ _ _ _ _ _ _ _ _ _ _ _ _ _ _ (h d) i)

section
attribute [local instance] Cert.Proof.Same.namedBits

theorem frame_Kernel : Cert.quiescent_Kernel := fun m g h => by
  have hr := run_args (F := Bits) m g fun d i => ids_of_pre _ _ _ _ _ _ _ _ _ _ _ _ _ _ _ _ (h d) i
  rw [Cert.Proof.Same.defs_eq, Cert.Proof.Same.threads_eq] at hr
  exact (θ_run Cert.Kernel.defs _ _).mono (fun _ hr => ⟨fun c => each (P := fun a => _ = m (c, Proc.devRef .tc a)) (hr.1.1 c), hr.1.2⟩) hr

end

theorem frame_ReferenceIdeal : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

theorem frame_ReferenceIdeal_pre : Cert.quiescent_ReferenceIdeal_pre_ids_in_range := fun m g _ => frame_ReferenceIdeal m g trivial

theorem preserves : Cert.preserves_Kernel_KernelIdeal :=
  IdealRules.named_const.statement Cert.KernelIdeal.κ "inv_k" .f32 0x3D4CCCCD#32 ((20⁻¹ : ℝ) : EReal) rfl

end Cert.Proof.Ends

end
-- ==== Proof.Read.lean ====
/-
  Array operations read at one index, at the exact values: a layer of a dense network, a broadcast row, a reshape, the
  two gathers; and the layers as functions of rows.
-/
module

public import Idealize.ShloMosaic.Lib.StackMember
public import Idealize.ShloMosaic.Lib.MatmulPlain
public import Idealize.ShloMosaic.Lib.IdealHost
public import Idealize.ShloMosaic.Lib.Pointwise.Reshape
public import Idealize.ShloMosaic.Lib.ReduceAll

@[expose] public section

noncomputable section

open scoped BigOperators

namespace Cert.Proof.Read

open Idealize.ShloMosaic hiding ix0 ix1 ix2 ix3 ix4
open Idealize.ShloMosaic.ValueIdx

/-! ## Layers as functions of rows -/

/-- A row through a dense layer. -/
def lin {K N : ℕ} (e : Fin K → EReal) (w : Fin K → Fin N → EReal) (b : Fin N → EReal) : Fin N → EReal :=
  fun j => (∑ k, e k * w k j) + b j
/-- A row's positive part. -/
def relu {N : ℕ} (v : Fin N → EReal) : Fin N → EReal := fun j => max (v j) 0
/-- The logistic function. -/
def sig (x : EReal) : EReal := Ideal.div 1 (1 + Ideal.exp (-x))
/-- A rank-2 array by its two coordinates, a rank-1 array by its one. -/
def mat {α : Type} {K N : ℕ} (w : (⟨2, ![K, N]⟩ : Shape).Idx → α) : Fin K → Fin N → α := fun k j => w (ix2 k j)
def vec {α : Type} {N : ℕ} (b : (⟨1, ![N]⟩ : Shape).Idx → α) : Fin N → α := fun j => b (ix1 j)

/-- Two layers, a positive part between them. -/
def two {K L N : ℕ} (w : (⟨2, ![K, L]⟩ : Shape).Idx → EReal) (b : (⟨1, ![L]⟩ : Shape).Idx → EReal)
    (w' : (⟨2, ![L, N]⟩ : Shape).Idx → EReal) (b' : (⟨1, ![N]⟩ : Shape).Idx → EReal) (e : Fin K → EReal) : Fin N → EReal :=
  lin (relu (lin e (mat w) (vec b))) (mat w') (vec b')

/-! ## Broadcasts -/

section
variable {α : Type} {s t : Shape}

theorem bid (dims : Fin s.rank → Fin t.rank) (h : s.BroadcastsInDim t dims) (x : s.Idx → α) (j : t.Idx) (i : s.Idx)
    (hi : ∀ a, (i a).val = if s.size a = 1 then 0 else (j (dims a)).val) : broadcastInDim t dims h x j = x i := by
  unfold broadcastInDim
  congr 1
  funext a
  apply Fin.ext
  rw [hi a]
  split <;> rfl

theorem row_bid {M N : ℕ} (h : Shape.BroadcastsInDim ⟨2, ![1, N]⟩ ⟨2, ![M, N]⟩ ![0, 1]) (h' : Shape.BroadcastsInDim ⟨1, ![N]⟩ ⟨2, ![1, N]⟩ ![1])
    (b : (⟨1, ![N]⟩ : Shape).Idx → α) (r : Fin M) (j : Fin N) :
    broadcastInDim ⟨2, ![M, N]⟩ ![0, 1] h (broadcastInDim ⟨2, ![1, N]⟩ ![1] h' b) (ix2 r j) = vec b j := by
  rw [bid _ _ _ _ (ix2 0 j), bid _ _ _ _ (ix1 j)]
  · rfl
  · intro a
    obtain rfl : a = 0 := Subsingleton.elim _ _
    show j.val = if N = 1 then 0 else j.val
    split
    · have := j.isLt; omega
    · rfl
  · intro a
    match a with
    | ⟨0, _⟩ => rfl
    | ⟨1, _⟩ =>
      show j.val = if N = 1 then 0 else j.val
      split
      · have := j.isLt; omega
      · rfl

theorem bto (x : s.Idx → α) (h : s.Broadcasts t) (j : t.Idx) (i : s.Idx)
    (hi : ∀ a : Fin s.rank, (i a).val = if s.size a = 1 then 0 else
      (j ⟨a.val + (t.rank - s.rank), by have := h.1; have := a.isLt; omega⟩).val) : broadcastTo t x h j = x i := by
  unfold broadcastTo
  congr 1
  funext a
  apply Fin.ext
  rw [hi a]
  split <;> rfl

theorem row_bto {M N : ℕ} (h : Shape.Broadcasts ⟨2, ![1, N]⟩ ⟨2, ![M, N]⟩) (b : (⟨2, ![1, N]⟩ : Shape).Idx → α) (r : Fin M) (j : Fin N) :
    broadcastTo ⟨2, ![M, N]⟩ b h (ix2 r j) = b (ix2 0 j) := by
  refine bto _ _ _ _ fun a => ?_
  match a with
  | ⟨0, _⟩ => rfl
  | ⟨1, _⟩ =>
    show j.val = if N = 1 then 0 else j.val
    split
    · have := j.isLt; omega
    · rfl

theorem col_bto {M N : ℕ} (h : Shape.Broadcasts ⟨2, ![M, 1]⟩ ⟨2, ![M, N]⟩) (b : (⟨2, ![M, 1]⟩ : Shape).Idx → α) (r : Fin M) (j : Fin N) :
    broadcastTo ⟨2, ![M, N]⟩ b h (ix2 r j) = b (ix2 r 0) := by
  refine bto _ _ _ _ fun a => ?_
  match a with
  | ⟨1, _⟩ => rfl
  | ⟨0, _⟩ =>
    show r.val = if M = 1 then 0 else r.val
    split
    · have := r.isLt; omega
    · rfl

/-! ## Reshapes -/

theorem cast_at (x : s.Idx → α) (h : s.ShapeCasts t) (j : t.Idx) (i : s.Idx) (e : (s.rowMajor i).val = (t.rowMajor j).val) :
    shapeCast t x h j = x i :=
  congrArg x (Shape.reshapeEquiv_eq_of_vals h j i _ _ e rfl rfl)

theorem cast21 {A B N : ℕ} (x : (⟨2, ![A, B]⟩ : Shape).Idx → α) (h : Shape.ShapeCasts ⟨2, ![A, B]⟩ ⟨1, ![N]⟩) (a : Fin A) (b : Fin B) (n : Fin N)
    (hn : n.val = a.val * B + b.val) : shapeCast ⟨1, ![N]⟩ x h (ix1 n) = x (ix2 a b) :=
  cast_at _ _ _ _ (by rw [rowMajor_val2 _ B rfl, rowMajor_val1]; exact hn.symm)

theorem cast12 {A B N : ℕ} (x : (⟨1, ![N]⟩ : Shape).Idx → α) (h : Shape.ShapeCasts ⟨1, ![N]⟩ ⟨2, ![A, B]⟩) (a : Fin A) (b : Fin B) (n : Fin N)
    (hn : n.val = a.val * B + b.val) : shapeCast ⟨2, ![A, B]⟩ x h (ix2 a b) = x (ix1 n) :=
  cast_at _ _ _ _ (by rw [rowMajor_val2 _ B rfl, rowMajor_val1]; exact hn)

theorem cast22 {A B C D : ℕ} (x : (⟨2, ![A, B]⟩ : Shape).Idx → α) (h : Shape.ShapeCasts ⟨2, ![A, B]⟩ ⟨2, ![C, D]⟩) (a : Fin A) (b : Fin B)
    (c : Fin C) (d : Fin D) (e : a.val * B + b.val = c.val * D + d.val) : shapeCast ⟨2, ![C, D]⟩ x h (ix2 c d) = x (ix2 a b) :=
  cast_at _ _ _ _ (by rw [rowMajor_val2 _ B rfl, rowMajor_val2 _ D rfl]; exact e)

theorem cast32 {A B C N : ℕ} (x : (⟨3, ![A, B, C]⟩ : Shape).Idx → α) (h : Shape.ShapeCasts ⟨3, ![A, B, C]⟩ ⟨2, ![N, C]⟩) (a : Fin A) (b : Fin B)
    (c : Fin C) (n : Fin N) (hn : n.val = a.val * B + b.val) : shapeCast ⟨2, ![N, C]⟩ x h (ix2 n c) = x (ix3 a b c) :=
  cast_at _ _ _ _ (by
    rw [rowMajor_val3 _ (B * C) C rfl rfl, rowMajor_val2 _ C rfl]
    show a.val * (B * C) + b.val * C + c.val = n.val * C + c.val
    rw [hn]; ring)

theorem cast23 {A B C N : ℕ} (x : (⟨2, ![N, C]⟩ : Shape).Idx → α) (h : Shape.ShapeCasts ⟨2, ![N, C]⟩ ⟨3, ![A, B, C]⟩) (a : Fin A) (b : Fin B)
    (c : Fin C) (n : Fin N) (hn : n.val = a.val * B + b.val) : shapeCast ⟨3, ![A, B, C]⟩ x h (ix3 a b c) = x (ix2 n c) :=
  cast_at _ _ _ _ (by
    rw [rowMajor_val3 _ (B * C) C rfl rfl, rowMajor_val2 _ C rfl]
    show n.val * C + c.val = a.val * (B * C) + b.val * C + c.val
    rw [hn]; ring)

end

/-! ## Layers of a host program -/

theorem host_lin {M K N : ℕ} (x : FVec Ideal ⟨2, ![M, K]⟩ .f32) (w : FVec Ideal ⟨2, ![K, N]⟩ .f32) (b : FVec Ideal ⟨1, ![N]⟩ .f32)
    (h : Shape.BroadcastsInDim ⟨2, ![1, N]⟩ ⟨2, ![M, N]⟩ ![0, 1]) (h' : Shape.BroadcastsInDim ⟨1, ![N]⟩ ⟨2, ![1, N]⟩ ![1]) (r : Fin M) :
    mat (addf (Host.dotGeneral (DotDims.plain M K N) none x w) (broadcastInDim ⟨2, ![M, N]⟩ ![0, 1] h (broadcastInDim ⟨2, ![1, N]⟩ ![1] h' b))) r
      = lin (mat x r) (mat w) (vec b) := by
  funext j
  show Host.dotGeneral (DotDims.plain M K N) none x w (ix2 r j) + _ = _
  rw [StackMember.dotGeneral_plain_apply, row_bid]
  rfl

theorem host_relu {M N : ℕ} (x : FVec Ideal ⟨2, ![M, N]⟩ .f32) (h : Shape.BroadcastsInDim ⟨0, ![]⟩ ⟨2, ![M, N]⟩ ![]) (r : Fin M) :
    mat (maximumf x (broadcastInDim ⟨2, ![M, N]⟩ ![] h (constant ⟨0, ![]⟩ .f32 0x00000000#32))) r = relu (mat x r) := by
  funext j
  show max (x (ix2 r j)) (Ideal.ofBits .f32 0x00000000#32) = max (x (ix2 r j)) 0
  rw [Ideal.ofBits_zero_f32]

theorem host_two {M K L N : ℕ} (x : FVec Ideal ⟨2, ![M, K]⟩ .f32) (w : FVec Ideal ⟨2, ![K, L]⟩ .f32) (b : FVec Ideal ⟨1, ![L]⟩ .f32)
    (w' : FVec Ideal ⟨2, ![L, N]⟩ .f32) (b' : FVec Ideal ⟨1, ![N]⟩ .f32)
    (h₁ : Shape.BroadcastsInDim ⟨2, ![1, L]⟩ ⟨2, ![M, L]⟩ ![0, 1]) (h₂ : Shape.BroadcastsInDim ⟨1, ![L]⟩ ⟨2, ![1, L]⟩ ![1])
    (h₃ : Shape.BroadcastsInDim ⟨0, ![]⟩ ⟨2, ![M, L]⟩ ![])
    (h₄ : Shape.BroadcastsInDim ⟨2, ![1, N]⟩ ⟨2, ![M, N]⟩ ![0, 1]) (h₅ : Shape.BroadcastsInDim ⟨1, ![N]⟩ ⟨2, ![1, N]⟩ ![1]) (r : Fin M) :
    mat (addf (Host.dotGeneral (DotDims.plain M L N) none
        (maximumf (addf (Host.dotGeneral (DotDims.plain M K L) none x w) (broadcastInDim ⟨2, ![M, L]⟩ ![0, 1] h₁ (broadcastInDim ⟨2, ![1, L]⟩ ![1] h₂ b)))
          (broadcastInDim ⟨2, ![M, L]⟩ ![] h₃ (constant ⟨0, ![]⟩ .f32 0x00000000#32))) w')
        (broadcastInDim ⟨2, ![M, N]⟩ ![0, 1] h₄ (broadcastInDim ⟨2, ![1, N]⟩ ![1] h₅ b'))) r
      = two w b w' b' (mat x r) := by
  rw [host_lin, host_relu, host_lin]
  rfl

/-- The logistic function as a host program spells it. -/
theorem host_sig {s : Shape} (x : FVec Ideal s .f32) (h h' : Shape.BroadcastsInDim ⟨0, ![]⟩ s ![]) (i : s.Idx) :
    Host.divf (broadcastInDim s ![] h (constant ⟨0, ![]⟩ .f32 0x3F800000#32))
      (addf (broadcastInDim s ![] h' (constant ⟨0, ![]⟩ .f32 0x3F800000#32)) (Host.exp (Host.negf x))) i = sig (x i) := by
  show Ideal.div (Ideal.ofBits .f32 0x3F800000#32) (Ideal.ofBits .f32 0x3F800000#32 + Ideal.exp (-(x i))) = _
  rw [Ideal.ofBits_one_f32]
  rfl

/-! ## The two gathers -/

/-- Rows of a table by an id for each place. -/
theorem gather_rows {α : Type} {V D A B : ℕ} (hV : 0 < V)
    (wf : GatherDims.WF ⟨2, ![V, D]⟩ ⟨3, ![A, B, 1]⟩ ⟨3, ![A, B, D]⟩ [2] [0] [] [0] [] 2 ![1, D])
    (x : (⟨2, ![V, D]⟩ : Shape).Idx → α) (idx : IVec ⟨3, ![A, B, 1]⟩ 32) (a : Fin A) (b : Fin B) (c : Fin D) :
    Host.gather (⟨[2], [0], [], [], [0], 2, ![1, D], wf⟩ : GatherDims ⟨2, ![V, D]⟩ ⟨3, ![A, B, 1]⟩ ⟨3, ![A, B, D]⟩) x idx (ix3 a b c)
      = x (ix2 ⟨min (idx (ix3 a b 0)).toInt.toNat (V - 1), by omega⟩ c) := by
  unfold Host.gather
  congr 1
  set d : GatherDims ⟨2, ![V, D]⟩ ⟨3, ![A, B, 1]⟩ ⟨3, ![A, B, D]⟩ := ⟨[2], [0], [], [], [0], 2, ![1, D], wf⟩ with hd
  have key : ∀ e : Fin 2, d.start (ix3 a b c) idx e + d.batchCoord (ix3 a b c) e + d.offCoord (ix3 a b c) e
      = ((ix2 (⟨min (idx (ix3 a b 0)).toInt.toNat (V - 1), by omega⟩ : Fin V) c : (⟨2, ![V, D]⟩ : Shape).Idx) e).val := by
    intro e
    rw [GatherDims.batchCoord_eq_zero d _ _ List.not_mem_nil, Nat.add_zero]
    rcases (match e with | ⟨0, _⟩ => .inl rfl | ⟨1, _⟩ => .inr rfl : e = 0 ∨ e = 1) with rfl | rfl
    · rw [GatherDims.offCoord_eq_zero d _ _ (fun h => ((GatherDims.mem_sKept d _).mp h).1 (List.mem_singleton.mpr rfl)), Nat.add_zero]
      unfold GatherDims.start
      rw [dif_pos (show (0 : Fin 2) ∈ d.startIndexMap from List.mem_singleton.mpr rfl)]
      have hs : d.siIdx (ix3 a b c) ⟨List.idxOf (0 : Fin 2) d.startIndexMap, List.idxOf_lt_length_iff.2 (List.mem_singleton.mpr rfl)⟩ = ix3 a b 0 := by
        funext f
        refine Fin.ext ?_
        match f with
        | ⟨0, _⟩ => rfl
        | ⟨1, _⟩ => rfl
        | ⟨2, _⟩ => rfl
      rw [hs]
      rfl
    · unfold GatherDims.start
      rw [dif_neg (show ¬ (1 : Fin 2) ∈ d.startIndexMap from by simp [hd]), Nat.zero_add]
      unfold GatherDims.offCoord
      rw [dif_pos ((GatherDims.mem_sKept d _).mpr ⟨by simp [hd], List.not_mem_nil⟩)]
      rfl
  exact funext fun e => Fin.ext (key e)

/-- Rows of each slab of a stack, by a position for each place of the slab. -/
theorem gather_along {α : Type} {A S D B : ℕ} (hS : 0 < S)
    (wf : GatherDims.WF ⟨3, ![A, S, D]⟩ ⟨3, ![A, B, 1]⟩ ⟨3, ![A, B, D]⟩ [2] [1] [0] [1] [0] 2 ![1, 1, D])
    (x : (⟨3, ![A, S, D]⟩ : Shape).Idx → α) (idx : IVec ⟨3, ![A, B, 1]⟩ 32) (a : Fin A) (b : Fin B) (c : Fin D) :
    Host.gather (⟨[2], [1], [0], [0], [1], 2, ![1, 1, D], wf⟩ : GatherDims ⟨3, ![A, S, D]⟩ ⟨3, ![A, B, 1]⟩ ⟨3, ![A, B, D]⟩) x idx (ix3 a b c)
      = x (ix3 a ⟨min (idx (ix3 a b 0)).toInt.toNat (S - 1), by omega⟩ c) := by
  unfold Host.gather
  congr 1
  set d : GatherDims ⟨3, ![A, S, D]⟩ ⟨3, ![A, B, 1]⟩ ⟨3, ![A, B, D]⟩ := ⟨[2], [1], [0], [0], [1], 2, ![1, 1, D], wf⟩ with hd
  have key : ∀ e : Fin 3, d.start (ix3 a b c) idx e + d.batchCoord (ix3 a b c) e + d.offCoord (ix3 a b c) e
      = ((ix3 a (⟨min (idx (ix3 a b 0)).toInt.toNat (S - 1), by omega⟩ : Fin S) c : (⟨3, ![A, S, D]⟩ : Shape).Idx) e).val := by
    intro e
    rcases (match e with | ⟨0, _⟩ => .inl rfl | ⟨1, _⟩ => .inr (.inl rfl) | ⟨2, _⟩ => .inr (.inr rfl) : e = 0 ∨ e = 1 ∨ e = 2) with rfl | rfl | rfl
    · rw [GatherDims.start_batching d _ _ _ (List.mem_singleton.mpr rfl), Nat.zero_add,
        GatherDims.offCoord_eq_zero d _ _ (fun h => ((GatherDims.mem_sKept d _).mp h).2 (List.mem_singleton.mpr rfl)), Nat.add_zero]
      unfold GatherDims.batchCoord
      rw [dif_pos (List.mem_singleton.mpr rfl)]
      rfl
    · rw [GatherDims.batchCoord_eq_zero d _ _ (by simp [hd]), Nat.add_zero,
        GatherDims.offCoord_eq_zero d _ _ (fun h => ((GatherDims.mem_sKept d _).mp h).1 (List.mem_singleton.mpr rfl)), Nat.add_zero]
      unfold GatherDims.start
      rw [dif_pos (show (1 : Fin 3) ∈ d.startIndexMap from List.mem_singleton.mpr rfl)]
      have hs : d.siIdx (ix3 a b c) ⟨List.idxOf (1 : Fin 3) d.startIndexMap, List.idxOf_lt_length_iff.2 (List.mem_singleton.mpr rfl)⟩ = ix3 a b 0 := by
        funext f
        refine Fin.ext ?_
        match f with
        | ⟨0, _⟩ => rfl
        | ⟨1, _⟩ => rfl
        | ⟨2, _⟩ => rfl
      rw [hs]
      rfl
    · rw [GatherDims.batchCoord_eq_zero d _ _ (by simp [hd]), Nat.add_zero]
      unfold GatherDims.start
      rw [dif_neg (show ¬ (2 : Fin 3) ∈ d.startIndexMap from by simp [hd]), Nat.zero_add]
      unfold GatherDims.offCoord
      rw [dif_pos ((GatherDims.mem_sKept d _).mpr ⟨by simp [hd], by simp [hd]⟩)]
      rfl
  exact funext fun e => Fin.ext (key e)

end Cert.Proof.Read

end
-- ==== Proof.Order.lean ====
/-
  The order of the top positions: what the stable sort by score puts first is what the rounds of minima of packed keys
  take out first; and the count of each id, weighed, is the sum over the positions taken.
-/
module

public import Idealize.ShloMosaic.Lib.SortFacts
public import Mathlib.Data.EReal.Operations

@[expose] public section

noncomputable section

open scoped BigOperators

namespace Cert.Proof.Order

open Idealize.ShloMosaic

/-! ## The stable sort by score -/

/-- Position `a` is to come before position `b`: its score is greater, or the scores are equal and it is the earlier. -/
def Before {ι α : Type} [LinearOrder ι] [LinearOrder α] (v : ι → α) (a b : ι) : Prop := v b < v a ∨ (v a = v b ∧ a < b)

section
variable {ι α : Type} [LinearOrder ι] [LinearOrder α] (v : ι → α) (R : ι → ι → Bool) (hR : ∀ a b, R a b = true ↔ v b < v a)
include hR

theorem insert_before (a : ι) (l : List ι) (hl : l.Pairwise (Before v)) (ha : ∀ b ∈ l, a < b) : (insertBefore R a l).Pairwise (Before v) := by
  induction l with
  | nil => exact List.pairwise_singleton _ _
  | cons b l ih =>
    rw [List.pairwise_cons] at hl
    unfold insertBefore
    by_cases h : R b a = true
    · rw [if_pos h]
      refine List.pairwise_cons.mpr ⟨fun c hc => ?_, ih hl.2 fun d hd => ha d (List.mem_cons_of_mem _ hd)⟩
      rcases List.mem_cons.mp ((perm_insertBefore R a l).mem_iff.mp hc) with rfl | hc
      · exact .inl ((hR _ _).mp h)
      · exact hl.1 c hc
    · rw [if_neg h]
      have hba : v b ≤ v a := not_lt.mp fun hlt => h ((hR _ _).mpr hlt)
      refine List.pairwise_cons.mpr ⟨fun c hc => ?_, List.pairwise_cons.mpr hl⟩
      have hca : v c ≤ v b := by
        rcases List.mem_cons.mp hc with rfl | hc'
        · exact le_refl _
        · rcases hl.1 c hc' with h' | h'
          · exact h'.le
          · exact h'.1.ge
      rcases lt_or_eq_of_le (hca.trans hba) with h' | h'
      · exact .inl h'
      · exact .inr ⟨h'.symm, ha c hc⟩

theorem sort_before (l : List ι) (hl : l.Pairwise (· < ·)) : (stableSort R l).Pairwise (Before v) := by
  induction l with
  | nil => exact List.Pairwise.nil
  | cons a l ih =>
    rw [List.pairwise_cons] at hl
    unfold stableSort
    exact insert_before v R hR a _ (ih hl.2) fun b hb => hl.1 b ((perm_stableSort R l).mem_iff.mp hb)

end

theorem sorted_before {n : ℕ} {α : Type} [LinearOrder α] (v : Fin n → α) (R : Fin n → Fin n → Bool) (hR : ∀ a b, R a b = true ↔ v b < v a)
    (i j : Fin n) (hij : i < j) : Before v (sortedFrom R i) (sortedFrom R j) := by
  have h := List.pairwise_iff_get.mp (sort_before v R hR (List.finRange n) (List.pairwise_lt_finRange n))
  unfold sortedFrom
  exact h _ _ (show i.val < j.val from hij)

/-! ## The rounds of minima -/

/-- The greatest word that is not negative. -/
abbrev top : BitVec 32 := 2147483647#32

/-- What the rounds have taken out: after `t` rounds the first `t` positions of the order are gone and the minimum is the next. -/
theorem rounds {n : ℕ} (K : Fin n → BitVec 32) (hK : ∀ p, (K p).toNat < 2147483647) (π : Fin n → Fin n) (hs : Function.Surjective π)
    (hi : Function.Injective π) (hπ : ∀ i j, i < j → (K (π i)).toNat < (K (π j)).toNat) (key : ℕ → Fin n → BitVec 32) (mn : ℕ → BitVec 32)
    (h0 : ∀ p, key 0 p = K p) (hmin : ∀ t, (∀ p, (key t p).toNat ≤ 2147483647) → (mn t = top ∨ ∃ p, mn t = key t p) ∧ ∀ p, (mn t).toNat ≤ (key t p).toNat)
    (hstep : ∀ t p, key (t + 1) p = if key t p = mn t then top else key t p) :
    ∀ (t : ℕ), t ≤ n → (∀ i : Fin n, key t (π i) = if i.val < t then top else K (π i)) ∧ ∀ h : t < n, mn t = K (π ⟨t, h⟩) := by
  have key_le : ∀ t, (∀ i : Fin n, key t (π i) = if i.val < t then top else K (π i)) → ∀ p, (key t p).toNat ≤ 2147483647 := by
    intro t ht p
    obtain ⟨i, rfl⟩ := hs p
    rw [ht i]
    split
    · exact le_refl _
    · exact (hK _).le
  have next : ∀ t, (∀ i : Fin n, key t (π i) = if i.val < t then top else K (π i)) → ∀ h : t < n, mn t = K (π ⟨t, h⟩) := by
    intro t ht h
    obtain ⟨h1, h2⟩ := hmin t (key_le t ht)
    have hle := h2 (π ⟨t, h⟩)
    rw [ht ⟨t, h⟩, if_neg (lt_irrefl _)] at hle
    have hlt := hK (π ⟨t, h⟩)
    have htop : top.toNat = 2147483647 := rfl
    rcases h1 with h1 | ⟨p, h1⟩
    · rw [h1, htop] at hle
      omega
    · obtain ⟨i, rfl⟩ := hs p
      rw [ht i] at h1
      split at h1
      · rw [h1, htop] at hle
        omega
      · rename_i hit
        rcases Nat.lt_or_ge t i.val with hti | hti
        · have := hπ ⟨t, h⟩ i hti
          rw [h1] at hle
          omega
        · obtain rfl : i = ⟨t, h⟩ := Fin.ext (by show i.val = t; omega)
          exact h1
  intro t
  induction t with
  | zero =>
    intro _
    have a : ∀ i : Fin n, key 0 (π i) = if i.val < 0 then top else K (π i) := fun i => by rw [h0, if_neg (Nat.not_lt_zero _)]
    exact ⟨a, next 0 a⟩
  | succ t ih =>
    intro ht
    obtain ⟨a, b⟩ := ih (by omega)
    have b := b (by omega)
    have a' : ∀ i : Fin n, key (t + 1) (π i) = if i.val < t + 1 then top else K (π i) := by
      intro i
      rw [hstep, a i, b]
      rcases Nat.lt_trichotomy i.val t with h | h | h
      · rw [if_pos h, if_pos (show i.val < t + 1 by omega)]
        split <;> rfl
      · subst h
        rw [if_neg (lt_irrefl _), if_pos rfl, if_pos (Nat.lt_succ_self _)]
      · rw [if_neg (show ¬ i.val < t by omega), if_neg (show ¬ i.val < t + 1 by omega), if_neg]
        intro e
        have := hπ ⟨t, by omega⟩ i h
        rw [e] at this
        omega
    exact ⟨a', next (t + 1) a'⟩

/-! ## The packed keys -/

/-- How many entries are greater than an entry. -/
def rank {ι α : Type} [Fintype ι] [LinearOrder α] (s : ι → α) (a : ι) : ℕ := (Finset.univ.filter fun b => s a < s b).card

theorem rank_lt {ι α : Type} [Fintype ι] [LinearOrder α] (s : ι → α) (a b : ι) (h : s b < s a) : rank s a < rank s b := by
  refine Finset.card_lt_card (Finset.ssubset_iff_of_subset (fun c hc => ?_) |>.mpr ⟨a, ?_, ?_⟩)
  · rw [Finset.mem_filter] at hc ⊢
    exact ⟨hc.1, h.trans hc.2⟩
  · rw [Finset.mem_filter]
    exact ⟨Finset.mem_univ _, h⟩
  · rw [Finset.mem_filter]
    exact fun hc => lt_irrefl _ hc.2

theorem rank_eq {ι α : Type} [Fintype ι] [LinearOrder α] (s : ι → α) (a b : ι) (h : s a = s b) : rank s a = rank s b := by
  unfold rank
  rw [h]

theorem rank_le {ι α : Type} [Fintype ι] [LinearOrder α] (s : ι → α) (a : ι) : rank s a ≤ Fintype.card ι := Finset.card_le_univ _

/-- The packed key: the rank of the id's score, the position, the id. -/
def pack {V n : ℕ} {α : Type} [LinearOrder α] (s : Fin V → α) (id : Fin n → Fin V) (p : Fin n) : ℕ :=
  rank s (id p) * 2 ^ 18 + p.val * 2 ^ 10 + (id p).val

theorem pack_lt {V n : ℕ} {α : Type} [LinearOrder α] (s : Fin V → α) (id : Fin n → Fin V) (hV : V ≤ 1024) (hn : n ≤ 256) (a b : Fin n)
    (h : Before (fun p => s (id p)) a b) : pack s id a < pack s id b := by
  have ha := (id a).isLt
  have hb := (id b).isLt
  have ha' := a.isLt
  have hb' := b.isLt
  unfold pack
  rcases h with h | ⟨h, hab⟩
  · have := rank_lt s (id a) (id b) h
    omega
  · have := rank_eq s (id a) (id b) h
    have : a.val < b.val := hab
    omega

/-! ## Counts -/

/-- A natural number times an extended real adds it up that often. -/
theorem cast_mul (n : ℕ) (x : EReal) : ((n : ℝ) : EReal) * x = n • x := by
  rw [show ((n : ℝ) : EReal) = (n : EReal) from rfl, ← EReal.nsmul_eq_mul]

/-- Each id's count times its value, added up, is the sum of the values of the ids taken. -/
theorem count_sum {V k : ℕ} (id : Fin k → Fin V) (f : Fin V → EReal) :
    ∑ v, (((Finset.univ.filter fun j => id j = v).card : ℝ) : EReal) * f v = ∑ j, f (id j) := by
  simp only [cast_mul]
  rw [← Finset.sum_fiberwise (Finset.univ : Finset (Fin k)) id]
  refine Finset.sum_congr rfl fun v _ => ?_
  rw [Finset.sum_congr rfl (fun j hj => by rw [(Finset.mem_filter.mp hj).2] : ∀ j ∈ Finset.univ.filter (fun j => id j = v), f (id j) = f v),
    Finset.sum_const]

end Cert.Proof.Order

end
-- ==== Proof.Rows.lean ====
/-
  The rounds of the TensorCore call read at one row: the minimum of a row's keys, the keys left, the position and the
  id a packed key holds, and the counts of ids after the rounds.
-/
module

public import proofs.«01_k».proof.Proof.Topk
public import proofs.«01_k».proof.Proof.Read
public import proofs.«01_k».proof.Proof.Order
public import Idealize.ShloMosaic.Lib.Pointwise.Reduce

@[expose] public section

noncomputable section

open scoped BigOperators

namespace Cert.Proof.Rows

open Cert.KernelIdeal Cert.KernelIdeal.Gen
open Idealize.ShloMosaic hiding ix0 ix1 ix2 ix3 ix4
open Idealize.ShloMosaic.ValueIdx
open Cert.Proof.Run Cert.Proof.Read

/-! ## Words that are not negative -/

theorem minsi_of_le (a b : BitVec 32) (ha : a.toNat ≤ 2147483647) (hb : b.toNat ≤ 2147483647) :
    IntOp.minsi a b = if a.toNat < b.toNat then a else b := by
  have ha' : a.toInt = a.toNat := BitVec.toInt_eq_toNat_of_lt (by omega)
  have hb' : b.toInt = b.toNat := BitVec.toInt_eq_toNat_of_lt (by omega)
  unfold IntOp.minsi BitVec.slt
  rw [ha', hb']
  by_cases h : a.toNat < b.toNat
  · rw [if_pos h, if_pos (by simpa using h)]
  · rw [if_neg h, if_neg (by simpa using h)]

/-- A fold of minima from the greatest word: one of the entries or that word, and at most every entry. -/
theorem fold_min {ι : Type} (x : ι → BitVec 32) (l : List ι) (hx : ∀ i ∈ l, (x i).toNat ≤ 2147483647) (z : BitVec 32) (hz : z.toNat ≤ 2147483647) :
    (l.foldl (fun r i => IntOp.minsi r (x i)) z = z ∨ ∃ i ∈ l, l.foldl (fun r i => IntOp.minsi r (x i)) z = x i)
      ∧ (l.foldl (fun r i => IntOp.minsi r (x i)) z).toNat ≤ z.toNat
      ∧ ∀ i ∈ l, (l.foldl (fun r i => IntOp.minsi r (x i)) z).toNat ≤ (x i).toNat := by
  induction l generalizing z with
  | nil => exact ⟨.inl rfl, le_refl _, fun i hi => absurd hi (List.not_mem_nil)⟩
  | cons a l ih =>
    have ha := hx a (List.mem_cons_self ..)
    have hm := minsi_of_le z (x a) hz ha
    have hle : (IntOp.minsi z (x a)).toNat ≤ z.toNat ∧ (IntOp.minsi z (x a)).toNat ≤ (x a).toNat := by
      rw [hm]; split <;> omega
    obtain ⟨h1, h2, h3⟩ := ih (fun i hi => hx i (List.mem_cons_of_mem _ hi)) (IntOp.minsi z (x a)) (hle.1.trans hz)
    rw [List.foldl_cons]
    refine ⟨?_, h2.trans hle.1, fun i hi => ?_⟩
    · rcases h1 with h1 | ⟨i, hi, h1⟩
      · rw [h1, hm]
        split
        · exact .inl rfl
        · exact .inr ⟨a, List.mem_cons_self .., rfl⟩
      · exact .inr ⟨i, List.mem_cons_of_mem _ hi, h1⟩
    · rcases List.mem_cons.mp hi with rfl | hi
      · exact h2.trans hle.2
      · exact h3 i hi

/-! ## One round at a row -/

theorem row1_eq (r : Fin 1024) : row1 r = ix2 r 0 := by
  funext a
  match a with
  | ⟨0, _⟩ => rfl
  | ⟨1, _⟩ => rfl

theorem kmin_at (k : IVec S1024x200 32) (r : Fin 1024) :
    kmin k (row1 r) = (((List.finRange S1024x200.numel).map S1024x200.rowMajor.symm).filter fun i => reduces_S1024x200_S1024.drop i = ix1 r).foldl
      (fun r i => IntOp.minsi r (k i)) Order.top := by
  have h0 : kmin k = shapeCast S1024x1 (multiReductionI .minsi [1] S1024 k 2147483647#32 reduces_S1024x200_S1024 rfl) shapeCasts_S1024_S1024x1 := rfl
  rw [row1_eq, h0]
  generalize hx : multiReductionI .minsi [1] S1024 k 2147483647#32 reduces_S1024x200_S1024 rfl = x
  rw [cast12 (A := 1024) (B := 1) (N := 1024) x shapeCasts_S1024_S1024x1 r 0 r (by simp), ← hx]
  exact (congrFun (multiReductionI_eq_reduceFold (kind := .minsi) k 2147483647#32 reduces_S1024x200_S1024 rfl) (ix1 r)).trans (reduceFold_eq_foldl _ _ _ _ _)

theorem kmin_min (k : IVec S1024x200 32) (r : Fin 1024) (hk : ∀ p, (k (ix2 r p)).toNat ≤ 2147483647) :
    (kmin k (row1 r) = Order.top ∨ ∃ p, kmin k (row1 r) = k (ix2 r p)) ∧ ∀ p, (kmin k (row1 r)).toNat ≤ (k (ix2 r p)).toNat := by
  have fib : ∀ i, reduces_S1024x200_S1024.drop i = ix1 r ↔ ∃ p : Fin 200, ix2 r p = i := fun i =>
    Shape.Reduces.fiber_r2_a1 (n0 := 1024) (n1 := 200) reduces_S1024x200_S1024 (ix1 r) i
  rw [kmin_at]
  have mem : ∀ i, i ∈ ((List.finRange S1024x200.numel).map S1024x200.rowMajor.symm).filter (fun i => reduces_S1024x200_S1024.drop i = ix1 r)
      ↔ ∃ p : Fin 200, ix2 r p = i := by
    intro i
    rw [List.mem_filter, decide_eq_true_eq, fib]
    exact and_iff_right (List.mem_map.mpr ⟨S1024x200.rowMajor i, List.mem_finRange _, Equiv.symm_apply_apply _ _⟩)
  obtain ⟨h1, -, h3⟩ := fold_min k (((List.finRange S1024x200.numel).map S1024x200.rowMajor.symm).filter (fun i => reduces_S1024x200_S1024.drop i = ix1 r))
    (fun i hi => by obtain ⟨p, rfl⟩ := (mem i).mp hi; exact hk p) Order.top (by decide)
  refine ⟨?_, fun p => h3 _ ((mem _).mpr ⟨p, rfl⟩)⟩
  rcases h1 with h1 | ⟨i, hi, h1⟩
  · exact .inl h1
  · obtain ⟨p, rfl⟩ := (mem i).mp hi
    exact .inr ⟨p, h1⟩

theorem select_eq {α : Type} {w : ℕ} (x y : BitVec w) (a b : α) : Scalar.select (IntOp.cmpi .eq x y) a b = if x = y then a else b := by
  unfold Scalar.select IntOp.cmpi
  by_cases h : x = y
  · simp [h]
  · rw [if_neg h, if_neg]
    have hb : (x == y) = false := beq_eq_false_iff_ne.mpr h
    show ¬BitVec.ofBool (x == y) = 1#1
    rw [hb]
    decide

theorem knext_at (k : IVec S1024x200 32) (r : Fin 1024) (p : Fin 200) :
    knext k (ix2 r p) = if k (ix2 r p) = kmin k (row1 r) then Order.top else k (ix2 r p) := by
  have h : knext k (ix2 r p) = Scalar.select (IntOp.cmpi .eq (k (ix2 r p)) (broadcastTo S1024x200 (kmin k) broadcasts_S1024x1_S1024x200 (ix2 r p))) 2147483647#32 (k (ix2 r p)) := rfl
  rw [h, select_eq, col_bto, row1_eq]

theorem kout_at (k : IVec S1024x200 32) (r : Fin 1024) : kout k (row1 r) = ((kmin k (row1 r)).sshiftRight' 10#32) &&& 255#32 := rfl

theorem cnts_succ (k : IVec S1024x200 32) (n : ℕ) (r : Fin 1024) (v : Fin 1024) :
    cnts k (n + 1) (ix2 r v) = cnts k n (ix2 r v) + if (BitVec.ofNat 32 v.val).setWidth 16 = ((kmin (keys k n) (row1 r)) &&& 1023#32).setWidth 16 then 1#16 else 0#16 := by
  have h : cnts k (n + 1) (ix2 r v) = cnts k n (ix2 r v) + Scalar.select (IntOp.cmpi .eq (k1_pay4 (ix2 r v))
      (broadcastTo S1024x1024 (trunci 16 (andi (kmin (keys k n)) (broadcast S1024x1 1023#32)) natLt_16_32) broadcasts_S1024x1_S1024x1024 (ix2 r v))) 1#16 0#16 := rfl
  have h4 : k1_pay4 (ix2 r v) = (BitVec.ofNat 32 v.val).setWidth 16 := by
    show (iota .tc S1024x1024 32 [1] iota_S1024x1024_d1_w32 (ix2 r v)).setWidth 16 = _
    rw [iota_single_apply]
  rw [h, select_eq, col_bto, row1_eq, h4]
  rfl

/-! ## Packed keys -/

/-- Sixteen, ten and the low ten bits side by side. -/
theorem pack_or (a p i : ℕ) (hp : p < 256) (hi : i < 1024) : ((a <<< 18) ||| (p <<< 10)) ||| i = a * 2 ^ 18 + p * 2 ^ 10 + i := by
  have h1 : p <<< 10 < 2 ^ 18 := by rw [Nat.shiftLeft_eq]; omega
  rw [← Nat.shiftLeft_add_eq_or_of_lt h1]
  have h2 : a <<< 18 + p <<< 10 = (a * 2 ^ 8 + p) <<< 10 := by simp only [Nat.shiftLeft_eq]; ring
  rw [h2, ← Nat.shiftLeft_add_eq_or_of_lt (by simpa using hi), Nat.shiftLeft_eq]
  ring

theorem sshr_toNat (x : BitVec 32) (hx : x.toNat < 2147483648) : (x.sshiftRight' 10#32).toNat = x.toNat / 1024 := by
  have hm : x.msb = false := BitVec.msb_eq_false_iff_two_mul_lt.mpr (by omega)
  show (x.sshiftRight 10).toNat = _
  rw [BitVec.sshiftRight_eq_of_msb_false hm, BitVec.toNat_ushiftRight, Nat.shiftRight_eq_div_pow]

theorem pay3_at {F : FTy → Type} [FloatOps F] (w : Vec F S1024x200 .i32) (r : Fin 1024) (p : Fin 200) (rk i : ℕ) (hr : rk ≤ 1000) (hi : i < 1024)
    (hw : (w (ix2 r p) : BitVec 32).toNat = rk * 1024 + i) : (k1_pay3 w (ix2 r p)).toNat = rk * 2 ^ 18 + p.val * 2 ^ 10 + i := by
  have hp := p.isLt
  have h : k1_pay3 w (ix2 r p) = ((((w (ix2 r p) : BitVec 32).sshiftRight' 10#32) <<< 18#32) ||| ((BitVec.ofNat 32 p.val) <<< 10#32)) ||| ((w (ix2 r p) : BitVec 32) &&& 1023#32) := by
    have hc : shapeCast S1024x200 w shapeCasts_S1024x200_S1024x200 (ix2 r p) = w (ix2 r p) := cast22 _ _ _ _ _ _ rfl
    have hio : iota .tc S1024x200 32 [1] iota_S1024x200_d1_w32 (ix2 r p) = BitVec.ofNat 32 p.val := by
      exact iota_single_apply ..
    rw [← hc, ← hio]
    rfl
  rw [h]
  simp only [BitVec.toNat_or, BitVec.toNat_and, BitVec.shiftLeft_eq', BitVec.toNat_shiftLeft, BitVec.toNat_ofNat]
  rw [sshr_toNat _ (by omega), hw]
  have e1 : (rk * 1024 + i) / 1024 = rk := by omega
  have e2 : (rk * 1024 + i) &&& 1023 = i := by
    rw [show (1023 : ℕ) = 2 ^ 10 - 1 from rfl, Nat.and_two_pow_sub_one_eq_mod]; omega
  rw [e1, show (1023 % 2 ^ 32 : ℕ) = 1023 from rfl, e2, show (18 % 2 ^ 32 : ℕ) = 18 from rfl, show (10 % 2 ^ 32 : ℕ) = 10 from rfl,
    Nat.mod_eq_of_lt (show p.val < 2 ^ 32 by omega), Nat.mod_eq_of_lt (show rk <<< 18 < 2 ^ 32 by rw [Nat.shiftLeft_eq]; omega),
    Nat.mod_eq_of_lt (show p.val <<< 10 < 2 ^ 32 by rw [Nat.shiftLeft_eq]; omega)]
  exact pack_or rk p.val i (by omega) hi

/-- The position a packed key holds. -/
theorem pos_of (x : BitVec 32) (rk p i : ℕ) (hr : rk ≤ 1000) (hp : p < 256) (hi : i < 1024) (hx : x.toNat = rk * 2 ^ 18 + p * 2 ^ 10 + i) :
    (x.sshiftRight' 10#32) &&& 255#32 = BitVec.ofNat 32 p := by
  apply BitVec.eq_of_toNat_eq
  rw [BitVec.toNat_and, sshr_toNat _ (by omega), hx, BitVec.toNat_ofNat, BitVec.toNat_ofNat, show (255 % 2 ^ 32 : ℕ) = 2 ^ 8 - 1 from rfl,
    Nat.and_two_pow_sub_one_eq_mod]
  omega

/-- The id a packed key holds. -/
theorem id_of (x : BitVec 32) (rk p i : ℕ) (hi : i < 1024) (hx : x.toNat = rk * 2 ^ 18 + p * 2 ^ 10 + i) :
    (x &&& 1023#32).setWidth 16 = BitVec.ofNat 16 i := by
  apply BitVec.eq_of_toNat_eq
  rw [BitVec.toNat_setWidth, BitVec.toNat_and, hx, BitVec.toNat_ofNat, BitVec.toNat_ofNat, show (1023 % 2 ^ 32 : ℕ) = 2 ^ 10 - 1 from rfl,
    Nat.and_two_pow_sub_one_eq_mod]
  omega

/-! ## All rounds at a row -/

section
variable {F : FTy → Type} [FloatOps F] {α : Type} [LinearOrder α] (s : Fin 1000 → α) (id : Fin 200 → Fin 1000) (w : Vec F S1024x200 .i32) (r : Fin 1024)
  (hw : ∀ p, (w (ix2 r p) : BitVec 32).toNat = Order.rank s (id p) * 1024 + (id p).val)
  (π : Fin 200 → Fin 200) (hs : Function.Surjective π) (hi : Function.Injective π)
  (hπ : ∀ i j, i < j → Order.Before (fun p => s (id p)) (π i) (π j))
include hw hs hi hπ

theorem rank_1000 (v : Fin 1000) : Order.rank s v ≤ 1000 := (Order.rank_le s v).trans (by simp)

theorem key_at (p : Fin 200) : (k1_pay3 w (ix2 r p)).toNat = Order.pack s id p :=
  pay3_at w r p _ _ (Order.rank_le s (id p) |>.trans (by simp)) (by have := (id p).isLt; omega) (hw p)

/-- Round `t` finds the key of the position that is `t`-th in the order. -/
theorem min_at (t : ℕ) (ht : t < 200) : kmin (keys (k1_pay3 w) t) (row1 r) = k1_pay3 w (ix2 r (π ⟨t, ht⟩)) := by
  have hk := key_at s id w r hw π hs hi hπ
  refine (Order.rounds (fun p => k1_pay3 w (ix2 r p)) (fun p => ?_) π hs hi (fun i j hij => ?_) (fun t p => keys (k1_pay3 w) t (ix2 r p))
    (fun t => kmin (keys (k1_pay3 w) t) (row1 r)) (fun _ => rfl) (fun t h => kmin_min _ r h) (fun t p => knext_at _ r p) t ht.le).2 ht
  · rw [hk p]
    unfold Order.pack
    have := Order.rank_le s (id p)
    rw [Fintype.card_fin] at this
    have := (id p).isLt
    have := p.isLt
    omega
  · show (k1_pay3 w (ix2 r (π i))).toNat < (k1_pay3 w (ix2 r (π j))).toNat
    rw [hk, hk]
    exact Order.pack_lt s id (by norm_num) (by norm_num) _ _ (hπ i j hij)

theorem out_at (t : ℕ) (ht : t < 200) : kout (keys (k1_pay3 w) t) (row1 r) = BitVec.ofNat 32 (π ⟨t, ht⟩).val := by
  rw [kout_at, min_at s id w r hw π hs hi hπ t ht]
  have hb := (id (π ⟨t, ht⟩)).isLt
  have hr := Order.rank_le s (id (π ⟨t, ht⟩))
  rw [Fintype.card_fin] at hr
  exact pos_of _ (Order.rank s (id (π ⟨t, ht⟩))) _ (id (π ⟨t, ht⟩)).val hr (by have := (π ⟨t, ht⟩).isLt; omega) (by omega)
    (key_at s id w r hw π hs hi hπ _)

theorem cnt_at (v : Fin 1024) (t : ℕ) (ht : t ≤ 200) :
    cnts (k1_pay3 w) t (ix2 r v) = BitVec.ofNat 16 (Finset.univ.filter fun j : Fin t => (id (π (j.castLE ht))).val = v.val).card := by
  induction t with
  | zero => rfl
  | succ t ih =>
    rw [cnts_succ, ih (by omega), min_at s id w r hw π hs hi hπ t (by omega)]
    have hb := (id (π ⟨t, ht⟩)).isLt
    have hv := v.isLt
    rw [id_of _ (Order.rank s (id (π ⟨t, ht⟩))) (π ⟨t, ht⟩).val (id (π ⟨t, ht⟩)).val (by omega) (key_at s id w r hw π hs hi hπ _)]
    simp only [Finset.card_filter]
    rw [Fin.sum_univ_castSucc]
    have he : ((BitVec.ofNat 32 v.val).setWidth 16 = BitVec.ofNat 16 (id (π ⟨t, ht⟩)).val) ↔ (id (π ⟨t, ht⟩)).val = v.val := by
      rw [← BitVec.toNat_inj]
      simp only [BitVec.toNat_setWidth, BitVec.toNat_ofNat]
      omega
    have hlast : (if (id (π ((Fin.last t).castLE ht))).val = v.val then 1 else 0) = if (id (π ⟨t, ht⟩)).val = v.val then 1 else 0 := rfl
    rw [hlast, BitVec.ofNat_add]
    congr 1
    by_cases h : (id (π ⟨t, ht⟩)).val = v.val
    · rw [if_pos (he.mpr h), if_pos h]
    · rw [if_neg (fun e => h (he.mp e)), if_neg h]

end

end Cert.Proof.Rows

end
-- ==== Proof.Spec.lean ====
/-
  What both programs compute, as functions of the arguments: the score of an id, the positions of a row in the order of
  their scores, the attended row of an id, and the prediction from twenty of them.
-/
module

public import proofs.«01_k».proof.Proof.Read
public import proofs.«01_k».proof.Proof.Order

@[expose] public section

noncomputable section

open scoped BigOperators

namespace Cert.Proof.Spec

open Idealize.ShloMosaic hiding ix0 ix1 ix2 ix3 ix4
open Idealize.ShloMosaic.ValueIdx
open Cert.Proof.Read

/-- Arrays of one and of two axes. -/
abbrev Arr1 (N : ℕ) : Type := (⟨1, ![N]⟩ : Shape).Idx → EReal
abbrev Arr2 (K N : ℕ) : Type := (⟨2, ![K, N]⟩ : Shape).Idx → EReal

/-- The id at a place. -/
def idAt (x : (⟨2, ![4096, 200]⟩ : Shape).Idx → BitVec 32) (b : Fin 4096) (p : Fin 200) : Fin 1000 :=
  ⟨(x (ix2 b p)).toNat % 1000, Nat.mod_lt _ (by decide)⟩

/-- The score of a row: three layers and the logistic function. -/
def scoreOf (w2 : Arr2 128 64) (b3 : Arr1 64) (w4 : Arr2 64 32) (b5 : Arr1 32) (w6 : Arr2 32 1) (b7 : Arr1 1) (e : Fin 128 → EReal) : EReal :=
  sig (lin (relu (two w2 b3 w4 b5 e)) (mat w6) (vec b7) 0)

/-- The positions of a row, the greatest score first and equal scores by position. -/
def order (s : Fin 1000 → EReal) (id : Fin 200 → Fin 1000) : Fin 200 → Fin 200 :=
  sortedFrom fun p q => decide (s (id q) < s (id p))

theorem order_before (s : Fin 1000 → EReal) (id : Fin 200 → Fin 1000) (i j : Fin 200) (h : i < j) :
    Order.Before (fun p => s (id p)) (order s id i) (order s id j) :=
  Order.sorted_before (fun p => s (id p)) _ (fun _ _ => decide_eq_true_iff) i j h

theorem order_inj (s : Fin 1000 → EReal) (id : Fin 200 → Fin 1000) : Function.Injective (order s id) := sortedFrom_injective _
theorem order_surj (s : Fin 1000 → EReal) (id : Fin 200 → Fin 1000) : Function.Surjective (order s id) := sortedFrom_surjective _

/-- The mean of the attended rows of the twenty best. -/
def pooled (a : Fin 1000 → Fin 128 → EReal) (s : Fin 1000 → EReal) (id : Fin 200 → Fin 1000) (k : Fin 128) : EReal :=
  (∑ j : Fin 20, a (id (order s id (j.castLE (by decide)))) k) * ((20⁻¹ : ℝ) : EReal)

/-- The prediction from a pooled row: two layers and the logistic function. -/
def predOf (w12 : Arr2 128 64) (b13 : Arr1 64) (w14 : Arr2 64 1) (b15 : Arr1 1) (e : Fin 128 → EReal) : EReal :=
  sig (lin (relu (lin e (mat w12) (vec b13))) (mat w14) (vec b15) 0)

end Cert.Proof.Spec

end
-- ==== Proof.Scores.lean ====
/-
  The tables the kernel program makes before its first call, read at an entry: the score of an id, and its rank among
  the scores packed with the id.
-/
module

public import proofs.«01_k».proof.Proof.Frames
public import proofs.«01_k».proof.Proof.Rows
public import proofs.«01_k».proof.Proof.Spec
public import Idealize.ShloMosaic.Lib.WordSum

@[expose] public section

noncomputable section

open scoped BigOperators

namespace Cert.Proof.Scores

open Cert.KernelIdeal Cert.KernelIdeal.Gen
open Idealize.ShloMosaic hiding ix0 ix1 ix2 ix3 ix4
open Idealize.ShloMosaic.ValueIdx Idealize.ShloMosaic.StableHlo
open Cert.Proof.Run Cert.Proof.Read Cert.Proof.Spec

/-! ## The tables as terms -/

/-- The scores of all ids. -/
def svT (a1 : FVec Ideal S1000x128 .f32) (a2 : FVec Ideal S128x64 .f32) (a3 : FVec Ideal S64 .f32) (a4 : FVec Ideal S64x32 .f32) (a5 : FVec Ideal S32 .f32)
    (a6 : FVec Ideal S32x1 .f32) (a7 : FVec Ideal S1 .f32) : FVec Ideal S1000 .f32 :=
  Host.divf (broadcastInDim S1000 ![] bcast_S_S1000 (constant S_ .f32 0x3F800000#32))
    (addf (broadcastInDim S1000 ![] bcast_S_S1000 (constant S_ .f32 0x3F800000#32)) (Host.exp (Host.negf (shapeCast S1000
      (addf (Host.dotGeneral dot_S1000x32_S32x1_S1000x1_1_0_0_1_n_n none
        (maximumf (addf (Host.dotGeneral dot_S1000x64_S64x32_S1000x32_1_0_0_1_n_n none
            (maximumf (addf (Host.dotGeneral dot_S1000x128_S128x64_S1000x64_1_0_0_1_n_n none a1 a2)
              (broadcastInDim S1000x64 ![0, 1] bcast_S1x64_S1000x64_0_1 (broadcastInDim S1x64 ![1] bcast_S64_S1x64_1 a3)))
              (broadcastInDim S1000x64 ![] bcast_S_S1000x64 (constant S_ .f32 0x00000000#32))) a4)
            (broadcastInDim S1000x32 ![0, 1] bcast_S1x32_S1000x32_0_1 (broadcastInDim S1x32 ![1] bcast_S32_S1x32_1 a5)))
          (broadcastInDim S1000x32 ![] bcast_S_S1000x32 (constant S_ .f32 0x00000000#32))) a6)
        (broadcastInDim S1000x1 ![0, 1] bcast_S1x1_S1000x1_0_1 (broadcastInDim S1x1 ![1] bcast_S1_S1x1_1 a7))) shapeCasts_S1000x1_S1000))))

/-- The scores' ranks packed with the ids. -/
def ridT (sv : FVec Ideal S1000 .f32) : IVec S1000 32 :=
  ori (Host.shli (Host.reduce IntOp.addi (extui 32 (cmpf .ogt
        (broadcastInDim S1000x1000 ![0, 1] bcast_S1x1000_S1000x1000_0_1 (broadcastInDim S1x1000 ![1] bcast_S1000_S1x1000_1 sv))
        (broadcastInDim S1000x1000 ![0, 1] bcast_S1000x1_S1000x1000_0_1 (broadcastInDim S1000x1 ![0] bcast_S1000_S1000x1_0 sv))) natLt_1_32)
      (constantI S_ 32 0#32) reducesTo_S1000x1000_S1000_d1 h_S_) (broadcastInDim S1000 ![] bcast_S_S1000 (constantI S_ 32 10#32))) (iotaInDim S1000 32 0)

theorem svT_at (a1 : FVec Ideal S1000x128 .f32) (a2 : FVec Ideal S128x64 .f32) (a3 : FVec Ideal S64 .f32) (a4 : FVec Ideal S64x32 .f32) (a5 : FVec Ideal S32 .f32)
    (a6 : FVec Ideal S32x1 .f32) (a7 : FVec Ideal S1 .f32) (v : Fin 1000) : svT a1 a2 a3 a4 a5 a6 a7 (ix1 v) = scoreOf a2 a3 a4 a5 a6 a7 (mat a1 v) := by
  unfold svT
  refine (host_sig _ _ _ _).trans ?_
  refine congrArg sig ?_
  rw [cast21 _ _ v (0 : Fin 1) v (by simp)]
  refine (congrFun (host_lin (M := 1000) (K := 32) (N := 1) _ a6 a7 _ _ v) 0).trans ?_
  rw [host_relu]
  exact congrArg (fun e => lin (relu e) (mat a6) (vec a7) 0) (host_two (M := 1000) (K := 128) (L := 64) (N := 32) a1 a2 a3 a4 a5 _ _ _ _ _ v)

theorem col_bid {α : Type} {M N : ℕ} (h : Shape.BroadcastsInDim ⟨2, ![M, 1]⟩ ⟨2, ![M, N]⟩ ![0, 1]) (h' : Shape.BroadcastsInDim ⟨1, ![M]⟩ ⟨2, ![M, 1]⟩ ![0])
    (b : (⟨1, ![M]⟩ : Shape).Idx → α) (r : Fin M) (j : Fin N) :
    broadcastInDim ⟨2, ![M, N]⟩ ![0, 1] h (broadcastInDim ⟨2, ![M, 1]⟩ ![0] h' b) (ix2 r j) = b (ix1 r) := by
  have hr := r.isLt
  rw [bid _ h _ _ (ix2 r 0) (fun a => by
    match a with
    | ⟨0, _⟩ => show r.val = if M = 1 then 0 else r.val; split <;> omega
    | ⟨1, _⟩ => rfl)]
  exact bid _ h' _ _ (ix1 r) (fun a => by
    match a with
    | ⟨0, _⟩ => show r.val = if M = 1 then 0 else r.val; split <;> omega)

/-- The count of greater scores. -/
theorem count_at (sv : FVec Ideal S1000 .f32) (v : Fin 1000) :
    (Host.reduce IntOp.addi (extui 32 (cmpf .ogt
        (broadcastInDim S1000x1000 ![0, 1] bcast_S1x1000_S1000x1000_0_1 (broadcastInDim S1x1000 ![1] bcast_S1000_S1x1000_1 sv))
        (broadcastInDim S1000x1000 ![0, 1] bcast_S1000x1_S1000x1000_0_1 (broadcastInDim S1000x1 ![0] bcast_S1000_S1000x1_0 sv))) natLt_1_32)
      (constantI S_ 32 0#32) reducesTo_S1000x1000_S1000_d1 h_S_ (ix1 v)).toNat = Order.rank (fun u : Fin 1000 => sv (ix1 u)) v := by
  set x : IVec S1000x1000 32 := extui 32 (cmpf .ogt
        (broadcastInDim S1000x1000 ![0, 1] bcast_S1x1000_S1000x1000_0_1 (broadcastInDim S1x1000 ![1] bcast_S1000_S1x1000_1 sv))
        (broadcastInDim S1000x1000 ![0, 1] bcast_S1000x1_S1000x1000_0_1 (broadcastInDim S1000x1 ![0] bcast_S1000_S1000x1_0 sv))) natLt_1_32 with hx
  have hxa : ∀ u : Fin 1000, (x (ix2 v u)).toNat = if sv (ix1 v) < sv (ix1 u) then 1 else 0 := by
    intro u
    have e : x (ix2 v u) = (BitVec.ofBool (decide (sv (ix1 v) < sv (ix1 u)))).setWidth 32 := by
      have e1 := row_bid (M := 1000) bcast_S1x1000_S1000x1000_0_1 bcast_S1000_S1x1000_1 sv v u
      have e2 := col_bid (N := 1000) bcast_S1000x1_S1000x1000_0_1 bcast_S1000_S1000x1_0 sv v u
      rw [← show vec sv u = sv (ix1 u) from rfl, ← e1, ← e2]
      rfl
    rw [e]
    by_cases h : sv (ix1 v) < sv (ix1 u)
    · simp [h]
    · simp [h]
  rw [Host.reduce_eq_fold]
  have hs : ∀ (S : Finset S1000x1000.Idx) (z : BitVec 32), S.fold IntOp.addi z x = z + ∑ i ∈ S, x i := by
    intro S z
    induction S using Finset.cons_induction with
    | empty => simp
    | cons a S ha ih => rw [Finset.fold_cons, Finset.sum_cons, ih]; exact add_left_comm _ _ _
  rw [hs, show (constantI S_ 32 0#32 (Shape.Idx.first h_S_) : BitVec 32) = 0 from rfl, zero_add,
    Shape.ReducesTo.sum_fiber_r2_a1 (n0 := 1000) (n1 := 1000) reducesTo_S1000x1000_S1000_d1 (ix1 v) x]
  have hc : ∑ u : Fin 1000, (x (ix2 v u)).toNat = Order.rank (fun u : Fin 1000 => sv (ix1 u)) v := by
    simp only [hxa]
    exact (Finset.card_filter _ _).symm
  refine (WordSum.toNat_sum _ _ ?_).trans hc
  refine lt_of_eq_of_lt hc (lt_of_le_of_lt (Order.rank_le _ _) ?_)
  rw [Fintype.card_fin]
  norm_num

theorem ridT_at (sv : FVec Ideal S1000 .f32) (v : Fin 1000) :
    (ridT sv (ix1 v)).toNat = Order.rank (fun u : Fin 1000 => sv (ix1 u)) v * 1024 + v.val := by
  have hc := count_at sv v
  have hv := v.isLt
  have hr := Order.rank_le (fun u : Fin 1000 => sv (ix1 u)) v
  rw [Fintype.card_fin] at hr
  unfold ridT
  generalize Host.reduce IntOp.addi _ _ _ _ = c at hc ⊢
  show (((c (ix1 v)) <<< 10#32) ||| BitVec.ofNat 32 v.val).toNat = _
  rw [BitVec.toNat_or, BitVec.shiftLeft_eq', BitVec.toNat_shiftLeft, hc, BitVec.toNat_ofNat, BitVec.toNat_ofNat, Nat.mod_eq_of_lt (show v.val < 2 ^ 32 by omega),
    show (10 % 2 ^ 32 : ℕ) = 10 from rfl, Nat.mod_eq_of_lt (by rw [Nat.shiftLeft_eq]; omega), ← Nat.shiftLeft_add_eq_or_of_lt (by omega), Nat.shiftLeft_eq]

/-! ## The padded tables, an entry an id names -/

theorem pad_at {α : Type} (x : S1000.Idx → α) (z : S_.Idx → α) (v : Fin 1000) (w : Fin 1024) (h : w.val = v.val) :
    pad S1024 ![0] ![24] ![0] x z pads_S1000_S1024_0240 h_S_ (ix1 w) = x (ix1 v) := by
  have hv := v.isLt
  unfold pad
  rw [dif_pos (fun a => by
    match a with
    | ⟨0, _⟩ => exact ⟨Nat.zero_le _, by show (w.val - 0) % (0 + 1) = 0; omega, by show (w.val - 0) / (0 + 1) < 1000; omega⟩)]
  refine congrArg x (funext fun a => Fin.ext ?_)
  match a with
  | ⟨0, _⟩ => show (w.val - 0) / (0 + 1) = v.val; omega

theorem pad2_at {α : Type} (x : S1000x128.Idx → α) (z : S_.Idx → α) (v : Fin 1000) (w : Fin 1024) (h : w.val = v.val) (k : Fin 128) :
    pad S1024x128 ![0, 0] ![24, 0] ![0, 0] x z pads_S1000x128_S1024x128_0240_000 h_S_ (ix2 w k) = x (ix2 v k) := by
  have hv := v.isLt
  have hk := k.isLt
  unfold pad
  rw [dif_pos (fun a => by
    match a with
    | ⟨0, _⟩ => exact ⟨Nat.zero_le _, by show (w.val - 0) % (0 + 1) = 0; omega, by show (w.val - 0) / (0 + 1) < 1000; omega⟩
    | ⟨1, _⟩ => exact ⟨Nat.zero_le _, by show (k.val - 0) % (0 + 1) = 0; omega, by show (k.val - 0) / (0 + 1) < 128; omega⟩)]
  refine congrArg x (funext fun a => Fin.ext ?_)
  match a with
  | ⟨0, _⟩ => show (w.val - 0) / (0 + 1) = v.val; omega
  | ⟨1, _⟩ => show (k.val - 0) / (0 + 1) = k.val; omega

/-! ## The program's own tables -/

variable (m : (ℓ : Loc nD τ sig) → Buf (Elt Ideal) ℓ)

/-- An argument's contents. -/
abbrev arg1 (d : Dev nD) : S1000x128.Idx → EReal := m (d, Proc.devRef .tc main_arg1)
abbrev arg2 (d : Dev nD) : S128x64.Idx → EReal := m (d, Proc.devRef .tc main_arg2)
abbrev arg3 (d : Dev nD) : S64.Idx → EReal := m (d, Proc.devRef .tc main_arg3)
abbrev arg4 (d : Dev nD) : S64x32.Idx → EReal := m (d, Proc.devRef .tc main_arg4)
abbrev arg5 (d : Dev nD) : S32.Idx → EReal := m (d, Proc.devRef .tc main_arg5)
abbrev arg6 (d : Dev nD) : S32x1.Idx → EReal := m (d, Proc.devRef .tc main_arg6)
abbrev arg7 (d : Dev nD) : S1.Idx → EReal := m (d, Proc.devRef .tc main_arg7)

/-- The program's scores. -/
abbrev sv (d : Dev nD) : FVec Ideal S1000 .f32 := svT (arg1 m d) (arg2 m d) (arg3 m d) (arg4 m d) (arg5 m d) (arg6 m d) (arg7 m d)

theorem V1_sv (d : Dev nD) : V1 m d (Proc.devRef .tc main_v21)
    = pad S1024 ![0] ![24] ![0] (sv m d) (sitofp (F := Ideal) .f32 (constantI S_ 32 0#32)) pads_S1000_S1024_0240 h_S_ := by
  unfold V1
  after_reads_simp
  rfl

theorem V1_rid (d : Dev nD) : V1 m d (Proc.devRef .tc main_v33)
    = pad S1024 ![0] ![24] ![0] (ridT (sv m d)) (constantI S_ 32 2147483647#32) pads_S1000_S1024_0240 h_S_ := by
  unfold V1
  after_reads_simp
  rfl

end Cert.Proof.Scores

end
-- ==== Proof.Layers.lean ====
/-
  The layers of the TensorCore call read at a row: the attended table, and the prediction from the counts.
-/
module

public import proofs.«01_k».proof.Proof.Rows
public import proofs.«01_k».proof.Proof.Spec
public import Idealize.ShloMosaic.PureOps.IdealRules

@[expose] public section

noncomputable section

open scoped BigOperators

namespace Cert.Proof.Layers

open Cert.KernelIdeal Cert.KernelIdeal.Gen
open Idealize.ShloMosaic hiding ix0 ix1 ix2 ix3 ix4
open Idealize.ShloMosaic.ValueIdx
open Cert.Proof.Run Cert.Proof.Read Cert.Proof.Spec

theorem kern_mul {M K N : ℕ} (x : FVec Ideal ⟨2, ![M, K]⟩ .f32) (w : FVec Ideal ⟨2, ![K, N]⟩ .f32) (r : Fin M) (j : Fin N) :
    matmul (DotDims.plain M K N) none x w (constant ⟨2, ![M, N]⟩ .f32 0x00000000#32) (ix2 r j) = ∑ k, mat x r k * mat w k j := by
  refine (Ideal.matmul_plain_apply none x w _ r j).trans ?_
  show Ideal.ofBits .f32 0x00000000#32 + _ = _
  rw [Ideal.ofBits_zero_f32, zero_add]
  rfl

theorem kern_lin {M K N : ℕ} (x : FVec Ideal ⟨2, ![M, K]⟩ .f32) (w : FVec Ideal ⟨2, ![K, N]⟩ .f32) (b : FVec Ideal ⟨2, ![1, N]⟩ .f32)
    (h : Shape.Broadcasts ⟨2, ![1, N]⟩ ⟨2, ![M, N]⟩) (hc : Shape.ShapeCasts ⟨2, ![1, N]⟩ ⟨2, ![1, N]⟩) (r : Fin M) :
    mat (addf (matmul (DotDims.plain M K N) none x w (constant ⟨2, ![M, N]⟩ .f32 0x00000000#32)) (broadcastTo ⟨2, ![M, N]⟩ (shapeCast ⟨2, ![1, N]⟩ b hc) h)) r
      = lin (mat x r) (mat w) (mat b 0) := by
  funext j
  show matmul (DotDims.plain M K N) none x w (constant ⟨2, ![M, N]⟩ .f32 0x00000000#32) (ix2 r j) + _ = _
  rw [kern_mul, row_bto, cast22 b hc 0 j 0 j rfl]
  rfl

theorem kern_relu {M N : ℕ} (x : FVec Ideal ⟨2, ![M, N]⟩ .f32) (r : Fin M) :
    mat (maximumf x (broadcast ⟨2, ![M, N]⟩ (Scalar.ofBits .f32 0x00000000#32))) r = relu (mat x r) := by
  funext j
  show max (x (ix2 r j)) (Ideal.ofBits .f32 0x00000000#32) = max (x (ix2 r j)) 0
  rw [Ideal.ofBits_zero_f32]

/-- A row of the attended table. -/
theorem pay2_at (x : Vec Ideal S1024x128 .f32) (w : Vec Ideal S128x128 .f32) (b : Vec Ideal S1x128 .f32) (w' : Vec Ideal S128x128 .f32) (b' : Vec Ideal S1x128 .f32)
    (r : Fin 1024) : mat (k1_pay2 x w b w' b') r = lin (relu (lin (mat x r) (mat w) (mat b 0))) (mat w') (mat b' 0) := by
  have hx : ∀ y : FVec Ideal S1024x128 .f32, mat (shapeCast S1024x128 y shapeCasts_S1024x128_S1024x128) r = mat y r := fun y =>
    funext fun k => cast22 (A := 1024) (B := 128) (C := 1024) (D := 128) y shapeCasts_S1024x128_S1024x128 r k r k rfl
  refine (hx _).trans ?_
  refine (kern_lin (M := 1024) (K := 128) (N := 128) _ w' b' broadcasts_S1x128_S1024x128 shapeCasts_S1x128_S1x128 r).trans ?_
  rw [kern_relu]
  refine congrArg (fun e => lin (relu e) (mat w') (mat b' 0)) ?_
  refine (kern_lin (M := 1024) (K := 128) (N := 128) _ w b broadcasts_S1x128_S1024x128 shapeCasts_S1x128_S1x128 r).trans ?_
  rw [hx]

theorem sum_at (x : FVec Ideal S1024x64 .f32) (r : Fin 1024) :
    shapeCast S1024x1 (multiReduction .add [1] S1024 x 0x00000000#32 reduces_S1024x64_S1024 (.inl rfl) rfl) shapeCasts_S1024_S1024x1 (ix2 r 0)
      = ∑ k : Fin 64, x (ix2 r k) := by
  generalize hy : multiReduction .add [1] S1024 x 0x00000000#32 reduces_S1024x64_S1024 (.inl rfl) rfl = y
  rw [cast12 (A := 1024) (B := 1) (N := 1024) y shapeCasts_S1024_S1024x1 r 0 r (by simp), ← hy]
  exact Ideal.reduceAdd_r2_a1 (n0 := 1024) (n1 := 64) reduces_S1024x64_S1024 x (ix1 r)

/-- The sum before the last bias, at a row. -/
theorem logit_at (cnt : IVec S1024x1024 16) (att : Vec Ideal S1024x128 .f32) (w : Vec Ideal S128x64 .f32) (b : Vec Ideal S1x64 .f32) (c : Vec Ideal S1x64 .f32) (r : Fin 1024) :
    logit cnt att w b c (ix2 r 0)
      = ∑ k, relu (lin (fun k => (∑ v, (((cnt (ix2 r v)).toInt : ℝ) : EReal) * mat att v k) * ((20⁻¹ : ℝ) : EReal)) (mat w) (mat b 0)) k * c (ix2 0 k) := by
  unfold logit
  rw [sum_at]
  refine Finset.sum_congr rfl fun k _ => ?_
  refine congr (congrArg HMul.hMul ?_) ?_
  · refine (congrFun (kern_relu (M := 1024) (N := 64) _ r) k).trans ?_
    refine congrFun (congrArg relu ?_) k
    refine (kern_lin (M := 1024) (K := 128) (N := 64) _ w b broadcasts_S1x64_S1024x64 shapeCasts_S1x64_S1x64 r).trans ?_
    refine congrArg (fun e => lin e (mat w) (mat b 0)) (funext fun k => ?_)
    refine congr (congrArg HMul.hMul ((kern_mul (M := 1024) (K := 1024) (N := 128) _ _ r k).trans rfl)) ?_
    exact IdealRules.named_const.ideal_named_scalar _ _ _ _ rfl
  · exact (row_bto (M := 1024) (N := 64) _ _ r k).trans (cast22 (A := 1) (B := 64) (C := 1) (D := 64) c shapeCasts_S1x64_S1x64 0 k 0 k rfl)

/-- The prediction of a row, from its counts, the attended table and the last layers. -/
theorem pay1_at (l : FVec Ideal S1024x1 .f32) (x : Vec Ideal S1x1 .f32) (r : Fin 1024) : k1_pay1 l x (row1 r) = sig (l (ix2 r 0) + x (ix2 0 0)) := by
  rw [Rows.row1_eq]
  have h : broadcastTo S1024x1 (shapeCast S1x1 x shapeCasts_S1x1_S1x1) broadcasts_S1x1_S1024x1 (ix2 r 0) = x (ix2 0 0) :=
    (row_bto (M := 1024) (N := 1) _ _ r 0).trans (cast22 (A := 1) (B := 1) (C := 1) (D := 1) x shapeCasts_S1x1_S1x1 0 0 0 0 rfl)
  rw [← h]
  rfl

end Cert.Proof.Layers

end
-- ==== Proof.Kern.lean ====
/-
  The kernel program's three results, read at an index.
-/
module

public import proofs.«01_k».proof.Proof.Scores
public import proofs.«01_k».proof.Proof.Layers

@[expose] public section

noncomputable section

open scoped BigOperators

namespace Cert.Proof.Kern

open Cert.KernelIdeal Cert.KernelIdeal.Gen
open Idealize.ShloMosaic hiding ix0 ix1 ix2 ix3 ix4
open Idealize.ShloMosaic.ValueIdx Idealize.ShloMosaic.StableHlo
open Cert.Proof.Run Cert.Proof.Read Cert.Proof.Spec Cert.Proof.Scores

variable (m : (ℓ : Loc nD τ sig) → Buf (Elt Ideal) ℓ) (d : Dev nD)

abbrev arg8 : S128x128.Idx → EReal := m (d, Proc.devRef .tc main_arg8)
abbrev arg9 : S128.Idx → EReal := m (d, Proc.devRef .tc main_arg9)
abbrev arg10 : S128x128.Idx → EReal := m (d, Proc.devRef .tc main_arg10)
abbrev arg11 : S128.Idx → EReal := m (d, Proc.devRef .tc main_arg11)
abbrev arg12 : S128x64.Idx → EReal := m (d, Proc.devRef .tc main_arg12)
abbrev arg13 : S64.Idx → EReal := m (d, Proc.devRef .tc main_arg13)
abbrev arg14 : S64x1.Idx → EReal := m (d, Proc.devRef .tc main_arg14)
abbrev arg15 : S1.Idx → EReal := m (d, Proc.devRef .tc main_arg15)

/-- The id at a place, the score of an id, and its attended row, from the memory at the start. -/
abbrev ids (b : Fin 4096) : Fin 200 → Fin 1000 := idAt (xArg m d) b
abbrev score (v : Fin 1000) : EReal :=
  scoreOf (arg2 m d) (arg3 m d) (arg4 m d) (arg5 m d) (arg6 m d) (arg7 m d) (mat (arg1 m d) v)
abbrev att (v : Fin 1000) : Fin 128 → EReal := two (arg8 m d) (arg9 m d) (arg10 m d) (arg11 m d) (mat (arg1 m d) v)

/-! ## What the second call reads -/

/-- An array no operation before the second call writes keeps its contents. -/
theorem V2_kept (r : Ref sig .tc) (h1 : r ∉ wr1) (n0 : r ≠ main_v35_0) (n1 : r ≠ main_v35_1) :
    V2 m d (Proc.devRef .tc r) = m (d, Proc.devRef .tc r) := by
  have ne : ∀ {a b : Ref sig .tc}, a ≠ b → (Proc.devRef .tc a : DevRef τ sig) ≠ Proc.devRef .tc b := fun h e => h (Proc.devRef_injective _ e)
  rw [V2_of_ne m d _ (ne n0) (ne n1), V1_unwritten m d r h1]

theorem V3_kept (r : Ref sig .tc) (h1 : r ∉ wr1) (h2 : r ∉ wr2) (n0 : r ≠ main_v35_0) (n1 : r ≠ main_v35_1) :
    V3 m d (Proc.devRef .tc r) = m (d, Proc.devRef .tc r) :=
  (V3_unwritten m d r h2).trans (V2_kept m d r h1 n0 n1)

theorem V3_36 : V3 m d (Proc.devRef .tc main_v36) = shapeCast S4096x200 (gath1 (m1 m) d : S819200.Idx → EReal) shapeCasts_S819200_S4096x200 := by
  rw [← V2_0 m d]
  unfold V3
  after_reads_simp
  rfl

theorem V3_38 : V3 m d (Proc.devRef .tc main_v38) = shapeCast S4096x200 (gath2 (m1 m) d : S819200.Idx → BitVec 32) shapeCasts_S819200_S4096x200 := by
  rw [← V2_1 m d]
  unfold V3
  after_reads_simp
  rfl

theorem V3_37 : V3 m d (Proc.devRef .tc main_v37)
    = pad S1024x128 ![0, 0] ![24, 0] ![0, 0] (arg1 m d) (sitofp (F := Ideal) .f32 (constantI S_ 32 0#32)) pads_S1000x128_S1024x128_0240_000 h_S_ := by
  rw [show arg1 m d = V2 m d (Proc.devRef .tc main_arg1) from (V2_kept m d main_arg1 (by decide) (by decide) (by decide)).symm]
  unfold V3
  after_reads_simp
  rfl

theorem V3_39 : V3 m d (Proc.devRef .tc main_v39) = shapeCast S1x128 (arg9 m d) shapeCasts_S128_S1x128 := by
  rw [show arg9 m d = V2 m d (Proc.devRef .tc main_arg9) from (V2_kept m d main_arg9 (by decide) (by decide) (by decide)).symm]
  unfold V3
  after_reads_simp
  rfl

theorem V3_40 : V3 m d (Proc.devRef .tc main_v40) = shapeCast S1x128 (arg11 m d) shapeCasts_S128_S1x128 := by
  rw [show arg11 m d = V2 m d (Proc.devRef .tc main_arg11) from (V2_kept m d main_arg11 (by decide) (by decide) (by decide)).symm]
  unfold V3
  after_reads_simp
  rfl

theorem V3_41 : V3 m d (Proc.devRef .tc main_v41) = shapeCast S1x64 (arg13 m d) shapeCasts_S64_S1x64 := by
  rw [show arg13 m d = V2 m d (Proc.devRef .tc main_arg13) from (V2_kept m d main_arg13 (by decide) (by decide) (by decide)).symm]
  unfold V3
  after_reads_simp
  rfl

theorem V3_42 : V3 m d (Proc.devRef .tc main_v42) = shapeCast S1x64 (arg14 m d) shapeCasts_S64x1_S1x64 := by
  rw [show arg14 m d = V2 m d (Proc.devRef .tc main_arg14) from (V2_kept m d main_arg14 (by decide) (by decide) (by decide)).symm]
  unfold V3
  after_reads_simp
  rfl

theorem V3_43 : V3 m d (Proc.devRef .tc main_v43) = shapeCast S1x1 (arg15 m d) shapeCasts_S1_S1x1 := by
  rw [show arg15 m d = V2 m d (Proc.devRef .tc main_arg15) from (V2_kept m d main_arg15 (by decide) (by decide) (by decide)).symm]
  unfold V3
  after_reads_simp
  rfl

/-! ## The gathers -/

section
variable (hx : ∀ i, (xArg m d i).toNat < 1000)
include hx

theorem gath_at {α : Type} (t : S1000.Idx → α) (z : S_.Idx → α) (b : Fin 4096) (p : Fin 200) (f : S819200.Idx → α)
    (hf : ∀ j, f j = pad S1024 ![0] ![24] ![0] t z pads_S1000_S1024_0240 h_S_ (entry (shapeCast S819200 (xArg m d) shapeCasts_S4096x200_S819200 j))) :
    shapeCast S4096x200 f shapeCasts_S819200_S4096x200 (ix2 b p) = t (ix1 (ids m d b p)) := by
  have hb := b.isLt
  have hp := p.isLt
  rw [cast12 (A := 4096) (B := 200) (N := 819200) f _ b p ⟨b.val * 200 + p.val, by omega⟩ rfl, hf,
    cast21 (A := 4096) (B := 200) (N := 819200) _ _ b p ⟨b.val * 200 + p.val, by omega⟩ rfl]
  have h := hx (ix2 b p)
  have he : entry (xArg m d (ix2 b p)) = ix1 ⟨(xArg m d (ix2 b p)).toNat % 1024, Nat.mod_lt _ (by decide)⟩ := by
    funext a
    match a with
    | ⟨0, _⟩ => rfl
  rw [he]
  refine pad_at t z _ _ ?_
  show (xArg m d (ix2 b p)).toNat % 1024 = (xArg m d (ix2 b p)).toNat % 1000
  omega

theorem scores_at (b : Fin 4096) (p : Fin 200) : (V3 m d (Proc.devRef .tc main_v36) : S4096x200.Idx → EReal) (ix2 b p) = score m d (ids m d b p) := by
  rw [V3_36]
  refine (gath_at m d hx (sv m d) (sitofp (F := Ideal) .f32 (constantI S_ 32 0#32)) b p (gath1 (m1 m) d : S819200.Idx → EReal) (fun j => ?_)).trans
    (svT_at _ _ _ _ _ _ _ _)
  have h1 : (m1 m (svLoc d) : S1024.Idx → EReal) = _ := V1_sv m d
  have h2 : (m1 m (xLoc d) : S819200.Idx → BitVec 32) = shapeCast S819200 (xArg m d) shapeCasts_S4096x200_S819200 := V1_x m d
  unfold gath1
  rw [h1, h2]

theorem packed_at (b : Fin 4096) (p : Fin 200) :
    ((V3 m d (Proc.devRef .tc main_v38) : S4096x200.Idx → BitVec 32) (ix2 b p)).toNat = Order.rank (score m d) (ids m d b p) * 1024 + (ids m d b p).val := by
  rw [V3_38]
  have h := gath_at m d hx (ridT (sv m d)) (constantI S_ 32 2147483647#32) b p (gath2 (m1 m) d : S819200.Idx → BitVec 32) (fun j => by
    have h1 : (m1 m (ridLoc d) : S1024.Idx → BitVec 32) = _ := V1_rid m d
    have h2 : (m1 m (xLoc d) : S819200.Idx → BitVec 32) = shapeCast S819200 (xArg m d) shapeCasts_S4096x200_S819200 := V1_x m d
    unfold gath2
    rw [h1, h2])
  rw [h, ridT_at]
  rw [show (fun u : Fin 1000 => sv m d (ix1 u)) = score m d from funext fun u => svT_at _ _ _ _ _ _ _ u]

/-! ## The rounds -/

theorem blk_at (b : Fin 4096) (p : Fin 200) : blkAt (V3 m) d 0 (ptOf b) (ix2 (rowOf b) p) = (V3 m d (Proc.devRef .tc main_v38) : S4096x200.Idx → BitVec 32) (ix2 b p) := by
  refine (blkAt_0 (V3 m) d (ptOf b) (ix2 (rowOf b) p)).trans (congrArg _ (funext fun a => ?_))
  match a with
  | ⟨0, _⟩ => exact Fin.ext (by show 1024 * (b.val / 1024) + b.val % 1024 = b.val; omega)
  | ⟨1, _⟩ => rfl

theorem word_at (b : Fin 4096) (p : Fin 200) :
    (blkAt (V3 m) d 0 (ptOf b) (ix2 (rowOf b) p) : BitVec 32).toNat = Order.rank (score m d) (ids m d b p) * 1024 + (ids m d b p).val :=
  (congrArg BitVec.toNat (blk_at m d hx b p)).trans (packed_at m d hx b p)

theorem top_at (b : Fin 4096) (j : Fin 20) : (V5 m d (Proc.devRef .tc main_v44_0) : S4096x20.Idx → BitVec 32) (ix2 b j)
    = BitVec.ofNat 32 (order (score m d) (ids m d b) (j.castLE (by decide))).val := by
  rw [V5_unwritten m d main_v44_0 (by decide)]
  unfold V4
  rw [Vend_0]
  exact Rows.out_at (score m d) (ids m d b) (blkAt (V3 m) d 0 (ptOf b)) (rowOf b) (word_at m d hx b) (order (score m d) (ids m d b))
    (order_surj _ _) (order_inj _ _) (order_before _ _) j.val (by have := j.isLt; omega)

theorem cnt_int (b : Fin 4096) (v : Fin 1024) : (cnts (k1_pay3 (blkAt (V3 m) d 0 (ptOf b))) 20 (ix2 (rowOf b) v)).toInt
    = ((Finset.univ.filter fun j : Fin 20 => (ids m d b (order (score m d) (ids m d b) (j.castLE (by decide)))).castLE (by decide : 1000 ≤ 1024) = v).card : ℤ) := by
  rw [Rows.cnt_at (score m d) (ids m d b) (blkAt (V3 m) d 0 (ptOf b)) (rowOf b) (word_at m d hx b) (order (score m d) (ids m d b))
    (order_surj _ _) (order_inj _ _) (order_before _ _) v 20 (by decide)]
  have he : ∀ S T : Finset (Fin 20), S = T → (BitVec.ofNat 16 S.card).toInt = (T.card : ℤ) := by
    rintro S T rfl
    have := Finset.card_le_univ S
    rw [Fintype.card_fin] at this
    rw [BitVec.toInt_eq_toNat_of_lt, BitVec.toNat_ofNat, Nat.mod_eq_of_lt (by omega)]
    rw [BitVec.toNat_ofNat, Nat.mod_eq_of_lt (by omega)]
    omega
  refine he _ _ (Finset.filter_congr fun j _ => ?_)
  rw [Fin.ext_iff]
  rfl

end

/-! ## The attended table and the prediction -/

theorem bias {N : ℕ} (b : (⟨1, ![N]⟩ : Shape).Idx → EReal) (h : Shape.ShapeCasts ⟨1, ![N]⟩ ⟨2, ![1, N]⟩) : mat (shapeCast ⟨2, ![1, N]⟩ b h) 0 = vec b :=
  funext fun k => cast12 (A := 1) (B := N) b h 0 k k (by simp)

theorem att_at (v : Fin 1000) : mat (att0 (V3 m) d) (v.castLE (by decide : 1000 ≤ 1024)) = att m d v := by
  unfold att0
  rw [Layers.pay2_at, blkAt_1, blkAt_2, blkAt_3, blkAt_4, blkAt_5, V3_37, V3_39, V3_40,
    V3_kept m d main_arg8 (by decide) (by decide) (by decide) (by decide), V3_kept m d main_arg10 (by decide) (by decide) (by decide) (by decide)]
  have h : mat (pad S1024x128 ![0, 0] ![24, 0] ![0, 0] (arg1 m d) (sitofp (F := Ideal) .f32 (constantI S_ 32 0#32)) pads_S1000x128_S1024x128_0240_000 h_S_)
      (v.castLE (by decide : 1000 ≤ 1024)) = mat (arg1 m d) v := funext fun k => pad2_at _ _ v _ rfl k
  rw [h, bias (arg9 m d), bias (arg11 m d)]
  rfl

theorem pred_at (hx : ∀ i, (xArg m d i).toNat < 1000) (b : Fin 4096) : (V5 m d (Proc.devRef .tc main_v45) : S4096.Idx → EReal) (ix1 b)
    = predOf (arg12 m d) (arg13 m d) (arg14 m d) (arg15 m d) (pooled (att m d) (score m d) (ids m d b)) := by
  have h5 : V5 m d (Proc.devRef .tc main_v45) = shapeCast S4096 (res11 (V3 m) d : S4096x1.Idx → EReal) shapeCasts_S4096x1_S4096 := by
    rw [← Vend_1 (V3 m) d]
    unfold V5 V4
    after_reads_simp
    rfl
  rw [h5, cast21 (A := 4096) (B := 1) (N := 4096) _ _ b 0 b (by simp)]
  have h0 : (res11 (V3 m) d : S4096x1.Idx → EReal) (ix2 b 0) = predBlk (k1_pay3 (blkAt (V3 m) d 0 (ptOf b))) (att0 (V3 m) d) (blkAt (V3 m) d 6 (ptOf b))
      (blkAt (V3 m) d 7 (ptOf b)) (blkAt (V3 m) d 8 (ptOf b)) (blkAt (V3 m) d 9 (ptOf b)) (row1 (rowOf b)) := rfl
  rw [h0]
  unfold predBlk
  rw [Layers.pay1_at, Layers.logit_at, blkAt_6, blkAt_7, blkAt_8, blkAt_9, V3_41, V3_42, V3_43,
    V3_kept m d main_arg12 (by decide) (by decide) (by decide) (by decide), bias (arg13 m d)]
  have hp : (fun k => (∑ v, (((cnts (k1_pay3 (blkAt (V3 m) d 0 (ptOf b))) 20 (ix2 (rowOf b) v)).toInt : ℝ) : EReal) * mat (att0 (V3 m) d) v k) * ((20⁻¹ : ℝ) : EReal))
      = pooled (att m d) (score m d) (ids m d b) := by
    funext k
    unfold pooled
    refine congrArg (· * ((20⁻¹ : ℝ) : EReal)) ?_
    rw [← Finset.sum_congr rfl (fun (j : Fin 20) _ => congrFun (att_at m d (ids m d b (order (score m d) (ids m d b) (j.castLE (by decide))))) k)]
    rw [← Order.count_sum (fun j : Fin 20 => (ids m d b (order (score m d) (ids m d b) (j.castLE (by decide)))).castLE (by decide : 1000 ≤ 1024))
      (fun v => mat (att0 (V3 m) d) v k)]
    refine Finset.sum_congr rfl fun v _ => ?_
    rw [cnt_int m d hx]
    norm_cast
  rw [hp]
  have h14 : ∀ k : Fin 64, shapeCast S1x64 (arg14 m d) shapeCasts_S64x1_S1x64 (ix2 0 k) = mat (arg14 m d) k 0 := fun k =>
    cast22 (A := 64) (B := 1) (C := 1) (D := 64) _ _ k 0 0 k (by simp)
  have h15 : shapeCast S1x1 (arg15 m d) shapeCasts_S1_S1x1 (ix2 0 0) = vec (arg15 m d) 0 :=
    cast12 (A := 1) (B := 1) (N := 1) _ _ 0 0 0 (by simp)
  simp only [h14, h15]
  rfl

theorem res3_at (hx : ∀ i, (xArg m d i).toNat < 1000) (b : Fin 4096) (p : Fin 200) :
    (V5 m d (Proc.devRef .tc main_v36) : S4096x200.Idx → EReal) (ix2 b p) = score m d (ids m d b p) := by
  rw [V5_unwritten m d main_v36 (by decide)]
  unfold V4
  rw [Vend_of_ne (V3 m) d _ (by decide) (by decide)]
  exact scores_at m d hx b p

end Cert.Proof.Kern

end
-- ==== Proof.Refs.lean ====
/-
  The reference program's three results as functions of the arguments' contents, read at an index.
-/
module

public import proofs.«01_k».proof.Proof.Spec
public import proofs.«01_k».proof.Proof.Gen.ReferenceIdeal.Run
public import Idealize.ShloMosaic.Lib.ReduceAll
public import Idealize.ShloMosaic.Lib.Pointwise.Reduce
public import Idealize.ShloMosaic.Lib.WordCmp

@[expose] public section

noncomputable section

open scoped BigOperators

namespace Cert.Proof.Refs

open Cert.ReferenceIdeal Cert.ReferenceIdeal.Gen
open Idealize.ShloMosaic hiding ix0 ix1 ix2 ix3 ix4
open Idealize.ShloMosaic.ValueIdx Idealize.ShloMosaic.StableHlo
open Cert.Proof.Read Cert.Proof.Spec

variable (a0 : S4096x200.Idx → BitVec 32) (a1 : FVec Ideal S1000x128 .f32) (a2 : FVec Ideal S128x64 .f32) (a3 : FVec Ideal S64 .f32)
  (a4 : FVec Ideal S64x32 .f32) (a5 : FVec Ideal S32 .f32) (a6 : FVec Ideal S32x1 .f32) (a7 : FVec Ideal S1 .f32) (a8 : FVec Ideal S128x128 .f32)
  (a9 : FVec Ideal S128 .f32) (a10 : FVec Ideal S128x128 .f32) (a11 : FVec Ideal S128 .f32) (a12 : FVec Ideal S128x64 .f32) (a13 : FVec Ideal S64 .f32)
  (a14 : FVec Ideal S64x1 .f32) (a15 : FVec Ideal S1 .f32)

/-! ## The terms -/

/-- The ids as indices of rows. -/
def idx : S4096x200x1.Idx → BitVec 32 :=
  broadcastInDim S4096x200x1 ![0, 1] bcast_S4096x200_S4096x200x1_0_1 (select (cmpi .slt a0 (broadcastInDim S4096x200 ![] bcast_S_S4096x200 (constantI S_ 32 0#32))) (addi a0 (broadcastInDim S4096x200 ![] bcast_S_S4096x200 (constantI S_ 32 1000#32))) a0)

/-- The rows the ids name. -/
def emb : FVec Ideal S4096x200x128 .f32 :=
  select (broadcastInDim S4096x200x128 ![0, 1] bcast_S4096x200_S4096x200x128_0_1 (Host.reduce IntOp.andi (andi (cmpi .sge (idx a0) (broadcastInDim S4096x200x1 ![] bcast_S_S4096x200x1 (constantI S_ 32 0#32))) (cmpi .sle (idx a0) (broadcastInDim S4096x200x1 ![0, 1, 2] bcast_S1x1x1_S4096x200x1_0_1_2 (broadcastInDim S1x1x1 ![2] bcast_S1_S1x1x1_2 (constantI S1 32 999#32))))) (constantI S_ 1 1#1) reducesTo_S4096x200x1_S4096x200_d2 h_S_)) (Host.gather gather_S1000x128_S4096x200x1_S4096x200x128_2_0_n_n_0_2_1128 a1 (idx a0)) (broadcastInDim S4096x200x128 ![] bcast_S_S4096x200x128 (constant S_ .f32 0x7FC00000#32))

/-- The scores. -/
def scores : FVec Ideal S4096x200 .f32 :=
  Host.divf (broadcastInDim S4096x200 ![] bcast_S_S4096x200 (constant S_ .f32 0x3F800000#32)) (addf (broadcastInDim S4096x200 ![] bcast_S_S4096x200 (constant S_ .f32 0x3F800000#32)) (Host.exp (Host.negf (shapeCast _ (addf (Host.dotGeneral dot_S819200x32_S32x1_S819200x1_1_0_0_1_n_n none (maximumf (addf (Host.dotGeneral dot_S819200x64_S64x32_S819200x32_1_0_0_1_n_n none (maximumf (addf (Host.dotGeneral dot_S819200x128_S128x64_S819200x64_1_0_0_1_n_n none (shapeCast _ (emb a0 a1) shapeCasts_S4096x200x128_S819200x128) a2) (broadcastInDim S819200x64 ![0, 1] bcast_S1x64_S819200x64_0_1 (broadcastInDim S1x64 ![1] bcast_S64_S1x64_1 a3))) (broadcastInDim S819200x64 ![] bcast_S_S819200x64 (constant S_ .f32 0x00000000#32))) a4) (broadcastInDim S819200x32 ![0, 1] bcast_S1x32_S819200x32_0_1 (broadcastInDim S1x32 ![1] bcast_S32_S1x32_1 a5))) (broadcastInDim S819200x32 ![] bcast_S_S819200x32 (constant S_ .f32 0x00000000#32))) a6) (broadcastInDim S819200x1 ![0, 1] bcast_S1x1_S819200x1_0_1 (broadcastInDim S1x1 ![1] bcast_S1_S1x1_1 a7))) shapeCasts_S819200x1_S4096x200))))

/-- The positions of the best twenty. -/
def best : S4096x20.Idx → BitVec 32 :=
  (Host.topK S4096x20 1 (FloatOps.cmpfTotal (F := Ideal) (φ := .f32) .gt) (scores a0 a1 a2 a3 a4 a5 a6 a7) sliceFits_S4096x200_S4096x20).2

/-- Those positions as indices along a row. -/
def jdx (t : S4096x20.Idx → BitVec 32) : S4096x20x1.Idx → BitVec 32 :=
  select (cmpi .slt (broadcastInDim S4096x20x1 ![0, 1] bcast_S4096x20_S4096x20x1_0_1 t) (broadcastInDim S4096x20x1 ![] bcast_S_S4096x20x1 (constantI S_ 32 0#32))) (addi (broadcastInDim S4096x20x1 ![0, 1] bcast_S4096x20_S4096x20x1_0_1 t) (broadcastInDim S4096x20x1 ![] bcast_S_S4096x20x1 (constantI S_ 32 200#32))) (broadcastInDim S4096x20x1 ![0, 1] bcast_S4096x20_S4096x20x1_0_1 t)

/-- The rows at those positions. -/
def sel (e : FVec Ideal S4096x200x128 .f32) (t : S4096x20.Idx → BitVec 32) : FVec Ideal S4096x20x128 .f32 :=
  select (broadcastInDim S4096x20x128 ![0, 1] bcast_S4096x20_S4096x20x128_0_1 (Host.reduce IntOp.andi (andi (cmpi .sge (jdx t) (broadcastInDim S4096x20x1 ![] bcast_S_S4096x20x1 (constantI S_ 32 0#32))) (cmpi .sle (jdx t) (broadcastInDim S4096x20x1 ![0, 1, 2] bcast_S1x1x1_S4096x20x1_0_1_2 (broadcastInDim S1x1x1 ![2] bcast_S1_S1x1x1_2 (constantI S1 32 199#32))))) (constantI S_ 1 1#1) reducesTo_S4096x20x1_S4096x20_d2 h_S_)) (Host.gather gather_S4096x200x128_S4096x20x1_S4096x20x128_2_1_0_0_1_2_11128 e (jdx t)) (broadcastInDim S4096x20x128 ![] bcast_S_S4096x20x128 (constant S_ .f32 0x7FC00000#32))

/-- The attended rows of the selected ones. -/
def attended (s : FVec Ideal S4096x20x128 .f32) : FVec Ideal S81920x128 .f32 :=
  addf (Host.dotGeneral dot_S81920x128_S128x128_S81920x128_1_0_0_1_n_n none (maximumf (addf (Host.dotGeneral dot_S81920x128_S128x128_S81920x128_1_0_0_1_n_n none (shapeCast _ s shapeCasts_S4096x20x128_S81920x128) a8) (broadcastInDim S81920x128 ![0, 1] bcast_S1x128_S81920x128_0_1 (broadcastInDim S1x128 ![1] bcast_S128_S1x128_1 a9))) (broadcastInDim S81920x128 ![] bcast_S_S81920x128 (constant S_ .f32 0x00000000#32))) a10) (broadcastInDim S81920x128 ![0, 1] bcast_S1x128_S81920x128_0_1 (broadcastInDim S1x128 ![1] bcast_S128_S1x128_1 a11))

/-- Their means. -/
def means (y : FVec Ideal S81920x128 .f32) : FVec Ideal S4096x128 .f32 :=
  Host.divf (Host.reduceAdd (shapeCast _ y shapeCasts_S81920x128_S4096x20x128) (constant S_ .f32 0x00000000#32) reducesTo_S4096x20x128_S4096x128_d1 h_S_) (broadcastInDim S4096x128 ![] bcast_S_S4096x128 (constant S_ .f32 0x41A00000#32))

/-- The predictions. -/
def preds (p : FVec Ideal S4096x128 .f32) : FVec Ideal S4096 .f32 :=
  shapeCast _ (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x64_S64x1_S4096x1_1_0_0_1_n_n none (maximumf (addf (Host.dotGeneral dot_S4096x128_S128x64_S4096x64_1_0_0_1_n_n none p a12) (broadcastInDim S4096x64 ![0, 1] bcast_S1x64_S4096x64_0_1 (broadcastInDim S1x64 ![1] bcast_S64_S1x64_1 a13))) (broadcastInDim S4096x64 ![] bcast_S_S4096x64 (constant S_ .f32 0x00000000#32))) a14) (broadcastInDim S4096x1 ![0, 1] bcast_S1x1_S4096x1_0_1 (broadcastInDim S1x1 ![1] bcast_S1_S1x1_1 a15))))))) shapeCasts_S4096x1_S4096

/-! ## Words in range -/

theorem not_neg (w n : BitVec 32) (h : w.toNat < 2 ^ 31) : Scalar.select (IntOp.cmpi .slt w 0#32) (IntOp.addi w n) w = w := by
  rw [Idealize.ShloMosaic.WordCmp.cmpi_slt_of_lt h (by decide)]
  simp [Scalar.select]

theorem within (w n : BitVec 32) (hn : n.toNat < 2 ^ 31) (h : w.toNat ≤ n.toNat) :
    IntOp.andi (IntOp.cmpi .sge w 0#32) (IntOp.cmpi .sle w n) = 1#1 := by
  have hw : w.toNat < 2 ^ 31 := lt_of_le_of_lt h hn
  rw [Idealize.ShloMosaic.WordCmp.cmpi_sge_of_lt hw (by decide), Idealize.ShloMosaic.WordCmp.cmpi_sle_of_lt hw hn, decide_eq_true h, decide_eq_true (show (0#32).toNat ≤ w.toNat from Nat.zero_le _)]
  rfl

theorem clamp (w : BitVec 32) (n : ℕ) (hn : n < 2 ^ 31) (h : w.toNat < n) : min w.toInt.toNat (n - 1) = w.toNat := by
  rw [BitVec.toInt_eq_toNat_of_lt (by omega)]
  omega

theorem eta3 {A B C : ℕ} (i : (⟨3, ![A, B, C]⟩ : Shape).Idx) : ∃ (a : Fin A) (b : Fin B) (c : Fin C), i = ix3 a b c := by
  refine ⟨i 0, i 1, i 2, ?_⟩
  funext a
  match a with
  | ⟨0, _⟩ => rfl
  | ⟨1, _⟩ => rfl
  | ⟨2, _⟩ => rfl

theorem eta2 {A B : ℕ} (i : (⟨2, ![A, B]⟩ : Shape).Idx) : ∃ (a : Fin A) (b : Fin B), i = ix2 a b := by
  refine ⟨i 0, i 1, ?_⟩
  funext a
  match a with
  | ⟨0, _⟩ => rfl
  | ⟨1, _⟩ => rfl

/-- The positions the greatest elements of a row are taken from. -/
theorem topk_at {A N K : ℕ} (gt : EReal → EReal → BitVec 1) (x : (⟨2, ![A, N]⟩ : Shape).Idx → EReal) (hK : K ≤ N)
    (h : (⟨2, ![A, N]⟩ : Shape).Slices (fun _ => 0) ⟨2, ![A, K]⟩) (b : Fin A) (j : Fin K) :
    (Host.topK ⟨2, ![A, K]⟩ 1 gt x h).2 (ix2 b j)
      = BitVec.ofNat 32 (sortedFrom (fun p q => gt (x (ix2 b p)) (x (ix2 b q)) == 1#1) (j.castLE hK)).val := by
  have along (c k : Fin N) : Shape.Idx.along (ix2 b c : (⟨2, ![A, N]⟩ : Shape).Idx) 1 k = ix2 b k := by
    funext a
    match a with
    | ⟨0, _⟩ => rfl
    | ⟨1, _⟩ => rfl
  have place (y : (⟨2, ![A, N]⟩ : Shape).Idx → BitVec 32) : extractStridedSlice ⟨2, ![A, K]⟩ (fun _ => 0) y h (ix2 b j) = y (ix2 b (j.castLE hK)) := by
    unfold extractStridedSlice
    congr 1
    funext a
    match a with
    | ⟨0, _⟩ => exact Fin.ext (Nat.zero_add _)
    | ⟨1, _⟩ => exact Fin.ext (Nat.zero_add _)
  unfold Host.topK
  dsimp only
  rw [place]
  unfold Host.sort2
  rw [dif_pos (show 1 < 2 by decide)]
  show BitVec.ofNat 32 (sortedFrom _ (j.castLE hK)).val = _
  congr 4
  funext p q
  exact congrArg₂ (fun u v => gt (x u) (x v) == 1#1) (along _ p) (along _ q)

/-! ## The rows read -/

section
variable (hx : ∀ i, (a0 i).toNat < 1000)
include hx

theorem idx_eq (b : Fin 4096) (p : Fin 200) (z : Fin 1) : idx a0 (ix3 b p z) = a0 (ix2 b p) := by
  unfold idx
  rw [bid _ _ _ _ (ix2 b p)]
  · exact not_neg _ _ (lt_trans (hx _) (by decide))
  · intro a
    match a with
    | ⟨0, _⟩ => rfl
    | ⟨1, _⟩ => rfl

theorem emb_at (b : Fin 4096) (p : Fin 200) (k : Fin 128) : emb a0 a1 (ix3 b p k) = mat a1 (idAt a0 b p) k := by
  unfold emb
  show Scalar.select _ _ _ = _
  rw [bid _ _ _ _ (ix2 b p)]
  · rw [Host.reduce_andi_one]
    · rw [select_one]
      refine (gather_rows (V := 1000) (D := 128) (A := 4096) (B := 200) (by decide) _ a1 (idx a0) b p k).trans ?_
      refine congrArg (fun v => a1 (ix2 v k)) (Fin.ext ?_)
      show min (idx a0 (ix3 b p 0)).toInt.toNat (1000 - 1) = (a0 (ix2 b p)).toNat % 1000
      rw [idx_eq a0 hx, clamp _ _ (by decide) (hx _), Nat.mod_eq_of_lt (hx _)]
    · rfl
    · intro i
      obtain ⟨b', p', z, rfl⟩ := eta3 i
      show IntOp.andi (IntOp.cmpi .sge (idx a0 _) 0#32) (IntOp.cmpi .sle (idx a0 _) 999#32) = 1#1
      rw [idx_eq a0 hx]
      exact within _ _ (by decide) (Nat.le_of_lt_succ (hx _))
  · intro a
    match a with
    | ⟨0, _⟩ => rfl
    | ⟨1, _⟩ => rfl

/-! ## The scores and their order -/

theorem scores_at (b : Fin 4096) (p : Fin 200) :
    scores a0 a1 a2 a3 a4 a5 a6 a7 (ix2 b p) = scoreOf a2 a3 a4 a5 a6 a7 (mat a1 (idAt a0 b p)) := by
  have hr : b.val * 200 + p.val < 819200 := by omega
  have he : mat (shapeCast S819200x128 (emb a0 a1) shapeCasts_S4096x200x128_S819200x128) ⟨b.val * 200 + p.val, hr⟩ = mat a1 (idAt a0 b p) := by
    funext k
    refine (cast32 (A := 4096) (B := 200) (C := 128) (N := 819200) (emb a0 a1) _ b p k ⟨b.val * 200 + p.val, hr⟩ rfl).trans ?_
    exact emb_at a0 a1 hx b p k
  unfold scores
  refine (host_sig _ _ _ _).trans ?_
  unfold scoreOf
  refine congrArg sig ?_
  refine (cast22 (A := 819200) (B := 1) (C := 4096) (D := 200) _ _ ⟨b.val * 200 + p.val, hr⟩ 0 b p (by show (b.val * 200 + p.val) * 1 + 0 = _; omega)).trans ?_
  refine (congrFun (host_lin (M := 819200) (K := 32) (N := 1) _ a6 a7 _ _ _) 0).trans ?_
  rw [host_relu]
  refine congrArg (fun e => lin (relu e) (mat a6) (vec a7) 0) ?_
  refine (host_two (M := 819200) (K := 128) (L := 64) (N := 32) _ a2 a3 a4 a5 _ _ _ _ _ _).trans ?_
  rw [he]

theorem best_at (b : Fin 4096) (j : Fin 20) :
    best a0 a1 a2 a3 a4 a5 a6 a7 (ix2 b j)
      = BitVec.ofNat 32 (order (fun v => scoreOf a2 a3 a4 a5 a6 a7 (mat a1 v)) (idAt a0 b) (j.castLE (by decide))).val := by
  have hs := scores_at a0 a1 a2 a3 a4 a5 a6 a7 hx b
  unfold best
  generalize scores a0 a1 a2 a3 a4 a5 a6 a7 = s at hs ⊢
  refine (topk_at (A := 4096) (N := 200) (K := 20) _ s (by decide) _ b j).trans ?_
  unfold order
  congr 3
  funext p q
  rw [hs, hs]
  show (BitVec.ofBool (decide _) == 1#1) = decide _
  by_cases h : scoreOf a2 a3 a4 a5 a6 a7 (mat a1 (idAt a0 b q)) < scoreOf a2 a3 a4 a5 a6 a7 (mat a1 (idAt a0 b p))
  · rw [decide_eq_true h]; rfl
  · rw [decide_eq_false h]; rfl
end

theorem jdx_eq (t : S4096x20.Idx → BitVec 32) (ht : ∀ i, (t i).toNat < 200) (b : Fin 4096) (j : Fin 20) (z : Fin 1) :
    jdx t (ix3 b j z) = t (ix2 b j) := by
  have h1 : broadcastInDim S4096x20x1 ![0, 1] bcast_S4096x20_S4096x20x1_0_1 t (ix3 b j z) = t (ix2 b j) := by
    refine bid _ _ _ _ _ fun a => ?_
    match a with
    | ⟨0, _⟩ => rfl
    | ⟨1, _⟩ => rfl
  unfold jdx
  show Scalar.select (IntOp.cmpi .slt (broadcastInDim S4096x20x1 ![0, 1] bcast_S4096x20_S4096x20x1_0_1 t (ix3 b j z)) 0#32) (IntOp.addi (broadcastInDim S4096x20x1 ![0, 1] bcast_S4096x20_S4096x20x1_0_1 t (ix3 b j z)) 200#32) _ = _
  rw [h1]
  exact not_neg _ _ (lt_trans (ht _) (by decide))

theorem sel_at (e : FVec Ideal S4096x200x128 .f32) (t : S4096x20.Idx → BitVec 32) (ht : ∀ i, (t i).toNat < 200) (b : Fin 4096) (j : Fin 20) (k : Fin 128) :
    sel e t (ix3 b j k) = e (ix3 b ⟨(t (ix2 b j)).toNat, ht _⟩ k) := by
  unfold sel
  show Scalar.select _ _ _ = _
  rw [bid _ _ _ _ (ix2 b j)]
  · rw [Host.reduce_andi_one]
    · rw [select_one]
      refine (gather_along (A := 4096) (S := 200) (D := 128) (B := 20) (by decide) _ e (jdx t) b j k).trans ?_
      refine congrArg (fun v => e (ix3 b v k)) (Fin.ext ?_)
      show min (jdx t (ix3 b j 0)).toInt.toNat (200 - 1) = (t (ix2 b j)).toNat
      rw [jdx_eq t ht, clamp _ _ (by decide) (ht _)]
    · rfl
    · intro i
      obtain ⟨b', p', z, rfl⟩ := eta3 i
      show IntOp.andi (IntOp.cmpi .sge (jdx t _) 0#32) (IntOp.cmpi .sle (jdx t _) 199#32) = 1#1
      rw [jdx_eq t ht]
      exact within _ _ (by decide) (Nat.le_of_lt_succ (ht _))
  · intro a
    match a with
    | ⟨0, _⟩ => rfl
    | ⟨1, _⟩ => rfl

/-! ## The prediction -/

theorem attended_at (s : FVec Ideal S4096x20x128 .f32) (b : Fin 4096) (j : Fin 20) (h : b.val * 20 + j.val < 81920) :
    mat (attended a8 a9 a10 a11 s) ⟨b.val * 20 + j.val, h⟩ = two a8 a9 a10 a11 fun k => s (ix3 b j k) := by
  unfold attended
  refine (host_two (M := 81920) (K := 128) (L := 128) (N := 128) _ a8 a9 a10 a11 _ _ _ _ _ _).trans ?_
  refine congrArg (two a8 a9 a10 a11) ?_
  funext k
  exact cast32 (A := 4096) (B := 20) (C := 128) (N := 81920) s _ b j k ⟨b.val * 20 + j.val, h⟩ rfl

theorem twenty : Ideal.ofBits .f32 0x41A00000#32 = ((20 : ℝ) : EReal) := by
  simp [Ideal.ofBits, Ideal.ieee, -EReal.coe_mul]
  norm_num

theorem means_at (y : FVec Ideal S81920x128 .f32) (b : Fin 4096) (k : Fin 128) :
    means y (ix2 b k) = (∑ j : Fin 20, mat y ⟨b.val * 20 + j.val, by omega⟩ k) * ((20⁻¹ : ℝ) : EReal) := by
  have hc (j : Fin 20) : shapeCast S4096x20x128 y shapeCasts_S81920x128_S4096x20x128 (ix3 b j k) = mat y ⟨b.val * 20 + j.val, by omega⟩ k :=
    cast23 (A := 4096) (B := 20) (C := 128) (N := 81920) y _ b j k ⟨b.val * 20 + j.val, by omega⟩ rfl
  unfold means
  show Ideal.div (Ideal.hostReduceAdd reducesTo_S4096x20x128_S4096x128_d1 _ (Ideal.ofBits .f32 0x00000000#32) (ix2 b k)) (Ideal.ofBits .f32 0x41A00000#32) = _
  rw [Ideal.hostReduceAdd_r3_a1, twenty, Ideal.ofBits_zero_f32, zero_add, Ideal.div, if_neg (by norm_num), ← EReal.coe_inv]
  congr 1
  exact Finset.sum_congr rfl fun j _ => hc j

theorem preds_at (p : FVec Ideal S4096x128 .f32) (b : Fin 4096) : preds a12 a13 a14 a15 p (ix1 b) = predOf a12 a13 a14 a15 (mat p b) := by
  unfold preds
  refine (cast21 (A := 4096) (B := 1) (N := 4096) _ _ b 0 b (by show b.val = b.val * 1 + 0; omega)).trans ?_
  refine (host_sig _ _ _ _).trans ?_
  unfold predOf
  refine congrArg sig ?_
  refine (congrFun (host_lin (M := 4096) (K := 64) (N := 1) _ a14 a15 _ _ _) 0).trans ?_
  rw [host_relu]
  exact congrArg (fun e => lin (relu e) (mat a14) (vec a15) 0) (host_lin (M := 4096) (K := 128) (N := 64) p a12 a13 _ _ b)

section
variable (hx : ∀ i, (a0 i).toNat < 1000)
include hx

theorem pred_at (b : Fin 4096) :
    preds a12 a13 a14 a15 (means (attended a8 a9 a10 a11 (sel (emb a0 a1) (best a0 a1 a2 a3 a4 a5 a6 a7)))) (ix1 b)
      = predOf a12 a13 a14 a15 (pooled (fun v => two a8 a9 a10 a11 (mat a1 v)) (fun v => scoreOf a2 a3 a4 a5 a6 a7 (mat a1 v)) (idAt a0 b)) := by
  have hb := best_at a0 a1 a2 a3 a4 a5 a6 a7 hx
  generalize best a0 a1 a2 a3 a4 a5 a6 a7 = t at hb ⊢
  have small (p : Fin 200) : (BitVec.ofNat 32 p.val).toNat = p.val := Nat.mod_eq_of_lt (lt_trans p.isLt (by decide))
  have ht : ∀ i, (t i).toNat < 200 := fun i => by
    obtain ⟨b', j', rfl⟩ := eta2 i
    rw [hb, small]
    exact Fin.isLt _
  rw [preds_at]
  refine congrArg (predOf a12 a13 a14 a15) ?_
  funext k
  show means _ (ix2 b k) = _
  rw [means_at]
  unfold pooled
  refine congrArg (fun u : EReal => u * ((20⁻¹ : ℝ) : EReal)) (Finset.sum_congr rfl fun j _ => ?_)
  rw [attended_at]
  refine congrFun (congrArg (two a8 a9 a10 a11) ?_) k
  funext k
  rw [sel_at _ t ht, emb_at a0 a1 hx]
  refine congrArg (fun p => mat a1 (idAt a0 b p) k) (Fin.ext ?_)
  show (t (ix2 b j)).toNat = _
  rw [hb, small]
end

end Cert.Proof.Refs

end
-- ==== Proof.Algebraic.lean ====
/-
  The two programs' results are the same: each is read at an index as the same function of the arguments.
-/
module

public import proofs.«01_k».proof.Proof.Ends
public import proofs.«01_k».proof.Proof.Kern
public import proofs.«01_k».proof.Proof.Refs

@[expose] public section

noncomputable section

namespace Cert.Proof.Algebraic

open Idealize.ShloMosaic hiding ix0 ix1 ix2 ix3 ix4
open Idealize.ShloMosaic.ValueIdx
open Idealize.SL.Sem Cert.Proof.Run Cert.Proof.Scores Cert.Proof.Kern Cert.Proof.Ends

section
variable (m : (ℓ : Loc Cert.KernelIdeal.nD Cert.KernelIdeal.τ Cert.KernelIdeal.sig) → Buf (Elt Ideal) ℓ) (d : Dev Cert.KernelIdeal.nD)
  (hx : ∀ i, (xArg m d i).toNat < 1000)
include hx

theorem same0 : Refs.preds (arg12 m d) (arg13 m d) (arg14 m d) (arg15 m d) (Refs.means (Refs.attended (arg8 m d) (arg9 m d) (arg10 m d) (arg11 m d)
      (Refs.sel (Refs.emb (xArg m d) (arg1 m d)) (Refs.best (xArg m d) (arg1 m d) (arg2 m d) (arg3 m d) (arg4 m d) (arg5 m d) (arg6 m d) (arg7 m d)))))
    = V5 m d (Proc.devRef .tc Cert.KernelIdeal.main_v45) := by
  funext i
  obtain ⟨b, rfl⟩ : ∃ b : Fin 4096, i = ix1 b := ⟨i 0, by
    funext a
    match a with
    | ⟨0, _⟩ => rfl⟩
  exact (Refs.pred_at _ _ _ _ _ _ _ _ _ _ _ _ _ _ _ _ hx b).trans (Kern.pred_at m d hx b).symm

theorem same1 : Refs.best (xArg m d) (arg1 m d) (arg2 m d) (arg3 m d) (arg4 m d) (arg5 m d) (arg6 m d) (arg7 m d)
    = V5 m d (Proc.devRef .tc Cert.KernelIdeal.main_v44_0) := by
  funext i
  obtain ⟨b, j, rfl⟩ := Refs.eta2 i
  exact (Refs.best_at _ _ _ _ _ _ _ _ hx b j).trans (Kern.top_at m d hx b j).symm

theorem same2 : Refs.scores (xArg m d) (arg1 m d) (arg2 m d) (arg3 m d) (arg4 m d) (arg5 m d) (arg6 m d) (arg7 m d)
    = V5 m d (Proc.devRef .tc Cert.KernelIdeal.main_v36) := by
  funext i
  obtain ⟨b, p, rfl⟩ := Refs.eta2 i
  exact (Refs.scores_at _ _ _ _ _ _ _ _ hx b p).trans (Kern.res3_at m d hx b p).symm

end

theorem algebraic : Cert.algebraic_KernelIdeal_ReferenceIdeal := fun m g m' g' hp hm => by
  have hx : ∀ d : Dev Cert.KernelIdeal.nD, ∀ i, (xArg m d i).toNat < 1000 := fun d i => ids_of_pre _ _ _ _ _ _ _ _ _ _ _ _ _ _ _ _ (hp d) i
  refine ⟨fun c => V5 m c (Proc.devRef .tc Cert.KernelIdeal.main_v45), fun c => V5 m c (Proc.devRef .tc Cert.KernelIdeal.main_v44_0),
    fun c => V5 m c (Proc.devRef .tc Cert.KernelIdeal.main_v36), ?_, ?_⟩
  · refine (θ_run Cert.KernelIdeal.defs _ _).mono (fun r hr c => ?_) (run_args (F := Ideal) m g hx)
    exact ⟨hr.2 c _ (by simp), hr.2 c _ (by simp), hr.2 c _ (by simp), each (P := fun a => r.2.mem (c, Proc.devRef .tc a) = m (c, Proc.devRef .tc a)) (hr.1.1 c)⟩
  · refine (θ_run Cert.ReferenceIdeal.defs _ _).mono (fun r hr c => ?_) (Cert.ReferenceIdeal.Value.run (F := Ideal) m' g')
    obtain ⟨e0, e1, e2, e3, e4, e5, e6, e7, e8, e9, e10, e11, e12, e13, e14, e15⟩ := hm c
    let A (r : Ref Cert.ReferenceIdeal.sig .tc) := m' ((c.tc : Thread Cert.ReferenceIdeal.nD Cert.ReferenceIdeal.τ).loc r)
    refine ⟨(hr c).1.trans ?_, (hr c).2.1.trans ?_, (hr c).2.2.1.trans ?_, (hr c).2.2.2⟩
    · unfold Cert.ReferenceIdeal.Value.res_main_v54
      show Refs.preds (A Cert.ReferenceIdeal.main_arg12) (A Cert.ReferenceIdeal.main_arg13) (A Cert.ReferenceIdeal.main_arg14) (A Cert.ReferenceIdeal.main_arg15) (Refs.means (Refs.attended (A Cert.ReferenceIdeal.main_arg8) (A Cert.ReferenceIdeal.main_arg9) (A Cert.ReferenceIdeal.main_arg10) (A Cert.ReferenceIdeal.main_arg11) (Refs.sel (Refs.emb (A Cert.ReferenceIdeal.main_arg0) (A Cert.ReferenceIdeal.main_arg1)) (Refs.best (A Cert.ReferenceIdeal.main_arg0) (A Cert.ReferenceIdeal.main_arg1) (A Cert.ReferenceIdeal.main_arg2) (A Cert.ReferenceIdeal.main_arg3) (A Cert.ReferenceIdeal.main_arg4) (A Cert.ReferenceIdeal.main_arg5) (A Cert.ReferenceIdeal.main_arg6) (A Cert.ReferenceIdeal.main_arg7))))) = _
      simp only [A]
      rw [e0, e1, e2, e3, e4, e5, e6, e7, e8, e9, e10, e11, e12, e13, e14, e15]
      exact same0 m c (hx c)
    · show Refs.best (A Cert.ReferenceIdeal.main_arg0) (A Cert.ReferenceIdeal.main_arg1) (A Cert.ReferenceIdeal.main_arg2) (A Cert.ReferenceIdeal.main_arg3) (A Cert.ReferenceIdeal.main_arg4) (A Cert.ReferenceIdeal.main_arg5) (A Cert.ReferenceIdeal.main_arg6) (A Cert.ReferenceIdeal.main_arg7) = _
      simp only [A]
      rw [e0, e1, e2, e3, e4, e5, e6, e7]
      exact same1 m c (hx c)
    · show Refs.scores (A Cert.ReferenceIdeal.main_arg0) (A Cert.ReferenceIdeal.main_arg1) (A Cert.ReferenceIdeal.main_arg2) (A Cert.ReferenceIdeal.main_arg3) (A Cert.ReferenceIdeal.main_arg4) (A Cert.ReferenceIdeal.main_arg5) (A Cert.ReferenceIdeal.main_arg6) (A Cert.ReferenceIdeal.main_arg7) = _
      simp only [A]
      rw [e0, e1, e2, e3, e4, e5, e6, e7]
      exact same2 m c (hx c)

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Ends
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Cert.Proof.Ends.frame_Kernel, Cert.Proof.Ends.frame_KernelIdeal, Cert.Proof.Ends.frame_ReferenceIdeal, Cert.Proof.Ends.frame_ReferenceIdeal_pre, Cert.Proof.Ends.preserves,
  Cert.Proof.Algebraic.algebraic⟩

end Cert.Proof

end
